-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ preserves_Kernel2_Kernel2Ideal
    ∧ algebraic_Kernel2Ideal_Reference2Ideal (hKernel2Ideal := hKernel2Ideal) (hReference2Ideal := hReference2Ideal)
-- ==== Kernel.lean ====
abbrev S8x4096x1024 : Shape := ⟨3, ![8, 4096, 1024]⟩
abbrev S1024 : Shape := ⟨1, ![1024]⟩
abbrev S1024x3072 : Shape := ⟨2, ![1024, 3072]⟩
abbrev S31x512 : Shape := ⟨2, ![31, 512]⟩
abbrev S512 : Shape := ⟨1, ![512]⟩
abbrev S2x512 : Shape := ⟨2, ![2, 512]⟩
abbrev S1024x1024 : Shape := ⟨2, ![1024, 1024]⟩
abbrev S512x512 : Shape := ⟨2, ![512, 512]⟩
abbrev S_ : Shape := ⟨0, ![]⟩
abbrev S512x128 : Shape := ⟨2, ![512, 128]⟩
abbrev S7x64x64 : Shape := ⟨3, ![7, 64, 64]⟩
abbrev S1x1024 : Shape := ⟨2, ![1, 1024]⟩
abbrev S1x512 : Shape := ⟨2, ![1, 512]⟩
abbrev S1x512x1024 : Shape := ⟨3, ![1, 512, 1024]⟩
abbrev S8x544x512 : Shape := ⟨3, ![8, 544, 512]⟩
abbrev S8x128x512 : Shape := ⟨3, ![8, 128, 512]⟩
abbrev S4x128x128 : Shape := ⟨3, ![4, 128, 128]⟩
abbrev S32x512 : Shape := ⟨2, ![32, 512]⟩
abbrev S1x32x512 : Shape := ⟨3, ![1, 32, 512]⟩
abbrev S512x1024 : Shape := ⟨2, ![512, 1024]⟩
abbrev S512x1 : Shape := ⟨2, ![512, 1]⟩
abbrev S1x512x512 : Shape := ⟨3, ![1, 512, 512]⟩
abbrev S1x536x512 : Shape := ⟨3, ![1, 536, 512]⟩
abbrev S536x512 : Shape := ⟨2, ![536, 512]⟩
abbrev S1024x512 : Shape := ⟨2, ![1024, 512]⟩
abbrev S8x64x512 : Shape := ⟨3, ![8, 64, 512]⟩
abbrev S1x128x512 : Shape := ⟨3, ![1, 128, 512]⟩
abbrev S128x512 : Shape := ⟨2, ![128, 512]⟩
abbrev S64x512 : Shape := ⟨2, ![64, 512]⟩
abbrev S64x128 : Shape := ⟨2, ![64, 128]⟩
abbrev S64x64 : Shape := ⟨2, ![64, 64]⟩
abbrev S1x64x64 : Shape := ⟨3, ![1, 64, 64]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 119
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S2x512, .f32⟩
  | .hbm, ⟨8, _⟩ => ⟨S512, .f32⟩
  | .hbm, ⟨9, _⟩ => ⟨S1024x1024, .f32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x512, .bf16⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S512x512, .bf16⟩
  | .hbm, ⟨38, _⟩ => ⟨S512x128, .i32⟩
  | .hbm, ⟨39, _⟩ => ⟨S512x128, .i32⟩
  | .hbm, ⟨40, _⟩ => ⟨S_, .i32⟩
  | .hbm, ⟨41, _⟩ => ⟨S512x128, .i32⟩
  | .hbm, ⟨42, _⟩ => ⟨S512x128, .i32⟩
  | .hbm, ⟨43, _⟩ => ⟨S_, .i32⟩
  | .hbm, ⟨44, _⟩ => ⟨S512x128, .i32⟩
  | .hbm, ⟨45, _⟩ => ⟨S512x128, .i32⟩
  | .hbm, ⟨46, _⟩ => ⟨S_, .i32⟩
  | .hbm, ⟨47, _⟩ => ⟨S512x128, .i32⟩
  | .hbm, ⟨48, _⟩ => ⟨S512x128, .i32⟩
  | .hbm, ⟨49, _⟩ => ⟨S_, .i32⟩
  | .hbm, ⟨50, _⟩ => ⟨S512x128, .i32⟩
  | .hbm, ⟨51, _⟩ => ⟨S512x128, .i1⟩
  | .hbm, ⟨52, _⟩ => ⟨S_, .i32⟩
  | .hbm, ⟨53, _⟩ => ⟨S512x128, .i32⟩
  | .hbm, ⟨54, _⟩ => ⟨S_, .i32⟩
  | .hbm, ⟨55, _⟩ => ⟨S512x128, .i32⟩
  | .hbm, ⟨56, _⟩ => ⟨S_, .i32⟩
  | .hbm, ⟨57, _⟩ => ⟨S512x128, .i32⟩
  | .hbm, ⟨58, _⟩ => ⟨S512x128, .i32⟩
  | .hbm, ⟨59, _⟩ => ⟨S512x128, .i32⟩
  | .hbm, ⟨60, _⟩ => ⟨S512x128, .i32⟩
  | .hbm, ⟨61, _⟩ => ⟨S_, .i32⟩
  | .hbm, ⟨62, _⟩ => ⟨S512x128, .i32⟩
  | .hbm, ⟨63, _⟩ => ⟨S512x128, .i1⟩
  | .hbm, ⟨64, _⟩ => ⟨S_, .i32⟩
  | .hbm, ⟨65, _⟩ => ⟨S512x128, .i32⟩
  | .hbm, ⟨66, _⟩ => ⟨S512x128, .i1⟩
  | .hbm, ⟨67, _⟩ => ⟨S512x128, .i32⟩
  | .hbm, ⟨68, _⟩ => ⟨S_, .i32⟩
  | .hbm, ⟨69, _⟩ => ⟨S512x128, .i32⟩
  | .hbm, ⟨70, _⟩ => ⟨S512x128, .i32⟩
  | .hbm, ⟨71, _⟩ => ⟨S_, .i32⟩
  | .hbm, ⟨72, _⟩ => ⟨S512x128, .i32⟩
  | .hbm, ⟨73, _⟩ => ⟨S512x128, .i1⟩
  | .hbm, ⟨74, _⟩ => ⟨S512x128, .i1⟩
  | .hbm, ⟨75, _⟩ => ⟨S512x128, .i32⟩
  | .hbm, ⟨76, _⟩ => ⟨S512x128, .i32⟩
  | .hbm, ⟨77, _⟩ => ⟨S512x128, .i1⟩
  | .hbm, ⟨78, _⟩ => ⟨S512x128, .i1⟩
  | .hbm, ⟨79, _⟩ => ⟨S512x128, .i1⟩
  | .hbm, ⟨80, _⟩ => ⟨S512x128, .i1⟩
  | .hbm, ⟨81, _⟩ => ⟨S512x128, .i1⟩
  | .hbm, ⟨82, _⟩ => ⟨S512x128, .f32⟩
  | .hbm, ⟨83, _⟩ => ⟨S512x128, .bf16⟩
  | .hbm, ⟨84, _⟩ => ⟨S7x64x64, .i32⟩
  | .hbm, ⟨85, _⟩ => ⟨S7x64x64, .i32⟩
  | .hbm, ⟨86, _⟩ => ⟨S7x64x64, .i32⟩
  | .hbm, ⟨87, _⟩ => ⟨S_, .i32⟩
  | .hbm, ⟨88, _⟩ => ⟨S7x64x64, .i32⟩
  | .hbm, ⟨89, _⟩ => ⟨S7x64x64, .i32⟩
  | .hbm, ⟨90, _⟩ => ⟨S7x64x64, .i32⟩
  | .hbm, ⟨91, _⟩ => ⟨S7x64x64, .i32⟩
  | .hbm, ⟨92, _⟩ => ⟨S7x64x64, .i1⟩
  | .hbm, ⟨93, _⟩ => ⟨S7x64x64, .i32⟩
  | .hbm, ⟨94, _⟩ => ⟨S_, .i32⟩
  | .hbm, ⟨95, _⟩ => ⟨S7x64x64, .i32⟩
  | .hbm, ⟨96, _⟩ => ⟨S7x64x64, .i32⟩
  | .hbm, ⟨97, _⟩ => ⟨S7x64x64, .i1⟩
  | .hbm, ⟨98, _⟩ => ⟨S7x64x64, .i1⟩
  | .hbm, ⟨99, _⟩ => ⟨S7x64x64, .i32⟩
  | .hbm, ⟨100, _⟩ => ⟨S_, .i32⟩
  | .hbm, ⟨101, _⟩ => ⟨S7x64x64, .i32⟩
  | .hbm, ⟨102, _⟩ => ⟨S7x64x64, .i32⟩
  | .hbm, ⟨103, _⟩ => ⟨S7x64x64, .i1⟩
  | .hbm, ⟨104, _⟩ => ⟨S7x64x64, .i1⟩
  | .hbm, ⟨105, _⟩ => ⟨S_, .i32⟩
  | .hbm, ⟨106, _⟩ => ⟨S7x64x64, .i32⟩
  | .hbm, ⟨107, _⟩ => ⟨S7x64x64, .i1⟩
  | .hbm, ⟨108, _⟩ => ⟨S7x64x64, .i1⟩
  | .hbm, ⟨109, _⟩ => ⟨S7x64x64, .i1⟩
  | .hbm, ⟨110, _⟩ => ⟨S7x64x64, .f32⟩
  | .hbm, ⟨111, _⟩ => ⟨S1x1024, .f32⟩
  | .hbm, ⟨112, _⟩ => ⟨S1024x3072, .bf16⟩
  | .hbm, ⟨113, _⟩ => ⟨S1x512, .f32⟩
  | .hbm, ⟨114, _⟩ => ⟨S1x512, .f32⟩
  | .hbm, ⟨115, _⟩ => ⟨S1x512, .f32⟩
  | .hbm, ⟨116, _⟩ => ⟨S1x512, .f32⟩
  | .hbm, ⟨117, _⟩ => ⟨S1024x1024, .bf16⟩
  | .hbm, ⟨118, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S2x512, .f32⟩
  | .local _ .vmem, ⟨9, _⟩ => ⟨S1x512, .f32⟩
  | .local _ .vmem, ⟨10, _⟩ => ⟨S1024x1024, .bf16⟩
  | .local _ .vmem, ⟨11, _⟩ => ⟨S512x512, .bf16⟩
  | .local _ .vmem, ⟨12, _⟩ => ⟨S512x512, .bf16⟩
  | .local _ .vmem, ⟨13, _⟩ => ⟨S512x128, .bf16⟩
  | .local _ .vmem, ⟨14, _⟩ => ⟨S7x64x64, .f32⟩
  | .local _ .vmem, ⟨15, _⟩ => ⟨S1x512x1024, .f32⟩
  | .local _ .vmem, ⟨16, _⟩ => ⟨S1x512x1024, .f32⟩
  | .local _ .vmem, ⟨17, _⟩ => ⟨S8x544x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S8x128x512, .bf16⟩
  | .local _ .vmem, ⟨24, _⟩ => ⟨S512x512, .f32⟩
  | .local _ .vmem, ⟨25, _⟩ => ⟨S4x128x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_c_10 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_c_12 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_13 : Ref sig .tc := ⟨.hbm, 68, rfl⟩
abbrev main_v43 : Ref sig .tc := ⟨.hbm, 69, rfl⟩
abbrev main_v44 : Ref sig .tc := ⟨.hbm, 70, rfl⟩
abbrev main_c_14 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_15 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_17 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_47 : BitVec 32 := 0#32
  let c16_i32 : BitVec 32 := 16#32
  let v65 : BitVec 32 := Scalar.addi c0_i32_47 c16_i32
  let c1_i32 : BitVec 32 := 1#32
  ⟨c0_i32_47, v65, c1_i32⟩
def k0_mult1 (k0_t1 : Fin k0_t1_loop.trips) : BitVec 32 :=
  let c0_i32_47 : BitVec 32 := 0#32
  let c1_i32 : BitVec 32 := 1#32
  let arg26 : BitVec 32 := Scf.iv c0_i32_47 c1_i32 k0_t1
  let c32_i32 : BitVec 32 := 32#32
  let v186 : BitVec 32 := Scalar.muli arg26 c32_i32
  v186
def k0_off1 (k0_t1 : Fin k0_t1_loop.trips) (c0_i32_121 : BitVec 32) : Fin 3 → Nat :=
  let c2_122 : Index := 2#32
  let c0_i32_47 : BitVec 32 := 0#32
  let c1_i32 : BitVec 32 := 1#32
  let arg26 : BitVec 32 := Scf.iv c0_i32_47 c1_i32 k0_t1
  let c32_i32 : BitVec 32 := 32#32
  let v186 : BitVec 32 := Scalar.muli arg26 c32_i32
  let v187 : BitVec 32 := v186
  let v193 : BitVec 32 := Scalar.addi v187 c0_i32_121
  let v194 : Index := Scalar.indexCast v193
  let c0_123 : Index := 0#32
  ![2, v194.toNat, 0]
def k0_off2 (k0_t1 : Fin k0_t1_loop.trips) (c0_i32_126 : BitVec 32) : Fin 3 → Nat :=
  let c3_127 : Index := 3#32
  let c0_i32_47 : BitVec 32 := 0#32
  let c1_i32 : BitVec 32 := 1#32
  let arg26 : BitVec 32 := Scf.iv c0_i32_47 c1_i32 k0_t1
  let c32_i32 : BitVec 32 := 32#32
  let v186 : BitVec 32 := Scalar.muli arg26 c32_i32
  let v187 : BitVec 32 := v186
  let v201 : BitVec 32 := Scalar.addi v187 c0_i32_126
  let v202 : Index := Scalar.indexCast v201
  let c0_128 : Index := 0#32
  ![3, v202.toNat, 0]
def k0_off3 (k0_t1 : Fin k0_t1_loop.trips) (c0_i32_131 : BitVec 32) : Fin 3 → Nat :=
  let c4_132 : Index := 4#32
  let c0_i32_47 : BitVec 32 := 0#32
  let c1_i32 : BitVec 32 := 1#32
  let arg26 : BitVec 32 := Scf.iv c0_i32_47 c1_i32 k0_t1
  let c32_i32 : BitVec 32 := 32#32
  let v186 : BitVec 32 := Scalar.muli arg26 c32_i32
  let v187 : BitVec 32 := v186
  let v209 : BitVec 32 := Scalar.addi v187 c0_i32_131
  let v210 : Index := Scalar.indexCast v209
  let c0_133 : Index := 0#32
  ![4, v210.toNat, 0]
def k0_off4 (k0_t1 : Fin k0_t1_loop.trips) (c0_i32_136 : BitVec 32) : Fin 3 → Nat :=
  let c5_137 : Index := 5#32
  let c0_i32_47 : BitVec 32 := 0#32
  let c1_i32 : BitVec 32 := 1#32
  let arg26 : BitVec 32 := Scf.iv c0_i32_47 c1_i32 k0_t1
  let c32_i32 : BitVec 32 := 32#32
  let v186 : BitVec 32 := Scalar.muli arg26 c32_i32
  let v187 : BitVec 32 := v186
  let v217 : BitVec 32 := Scalar.addi v187 c0_i32_136
  let v218 : Index := Scalar.indexCast v217
  let c0_138 : Index := 0#32
  ![5, v218.toNat, 0]
def k0_off5 (k0_t1 : Fin k0_t1_loop.trips) (c0_i32_141 : BitVec 32) : Fin 3 → Nat :=
  let c6_142 : Index := 6#32
  let c0_i32_47 : BitVec 32 := 0#32
  let c1_i32 : BitVec 32 := 1#32
  let arg26 : BitVec 32 := Scf.iv c0_i32_47 c1_i32 k0_t1
  let c32_i32 : BitVec 32 := 32#32
  let v186 : BitVec 32 := Scalar.muli arg26 c32_i32
  let v187 : BitVec 32 := v186
  let v225 : BitVec 32 := Scalar.addi v187 c0_i32_141
  let v226 : Index := Scalar.indexCast v225
  let c0_143 : Index := 0#32
  ![6, v226.toNat, 0]
def k0_off6 (k0_t1 : Fin k0_t1_loop.trips) (c0_i32_146 : BitVec 32) : Fin 3 → Nat :=
  let c7_147 : Index := 7#32
  let c0_i32_47 : BitVec 32 := 0#32
  let c1_i32 : BitVec 32 := 1#32
  let arg26 : BitVec 32 := Scf.iv c0_i32_47 c1_i32 k0_t1
  let c32_i32 : BitVec 32 := 32#32
  let v186 : BitVec 32 := Scalar.muli arg26 c32_i32
  let v187 : BitVec 32 := v186
  let v233 : BitVec 32 := Scalar.addi v187 c0_i32_146
  let v234 : Index := Scalar.indexCast v233
  let c0_148 : Index := 0#32
  ![7, v234.toNat, 0]
def k0_off7 (k0_t1 : Fin k0_t1_loop.trips) (c8_i32_151 : BitVec 32) : Fin 3 → Nat :=
  let c0_152 : Index := 0#32
  let c0_i32_47 : BitVec 32 := 0#32
  let c1_i32 : BitVec 32 := 1#32
  let arg26 : BitVec 32 := Scf.iv c0_i32_47 c1_i32 k0_t1
  let c32_i32 : BitVec 32 := 32#32
  let v186 : BitVec 32 := Scalar.muli arg26 c32_i32
  let v187 : BitVec 32 := v186
  let v241 : BitVec 32 := Scalar.addi v187 c8_i32_151
  let v242 : Index := Scalar.indexCast v241
  let c0_153 : Index := 0#32
  ![0, v242.toNat, 0]
def k0_off8 (k0_t1 : Fin k0_t1_loop.trips) (c8_i32_156 : BitVec 32) : Fin 3 → Nat :=
  let c1_157 : Index := 1#32
  let c0_i32_47 : BitVec 32 := 0#32
  let c1_i32 : BitVec 32 := 1#32
  let arg26 : BitVec 32 := Scf.iv c0_i32_47 c1_i32 k0_t1
  let c32_i32 : BitVec 32 := 32#32
  let v186 : BitVec 32 := Scalar.muli arg26 c32_i32
  let v187 : BitVec 32 := v186
  let v249 : BitVec 32 := Scalar.addi v187 c8_i32_156
  let v250 : Index := Scalar.indexCast v249
  let c0_158 : Index := 0#32
  ![1, v250.toNat, 0]
def k0_off9 (k0_t1 : Fin k0_t1_loop.trips) : Fin 2 → Nat :=
  let c0_i32_47 : BitVec 32 := 0#32
  let c1_i32 : BitVec 32 := 1#32
  let arg26 : BitVec 32 := Scf.iv c0_i32_47 c1_i32 k0_t1
  let c32_i32 : BitVec 32 := 32#32
  let v186 : BitVec 32 := Scalar.muli arg26 c32_i32
  let v187 : BitVec 32 := v186
  let v440 : Index := Scalar.indexCast v187
  let c0_250 : Index := 0#32
  ![v440.toNat, 0]
@[reducible] def k0_t2_loop : Scf.Loop 32 :=
  let c0_i32_95 : BitVec 32 := 0#32
  let c8_i32 : BitVec 32 := 8#32
  let v155 : BitVec 32 := Scalar.addi c0_i32_95 c8_i32
  let c1_i32_96 : BitVec 32 := 1#32
  ⟨c0_i32_95, v155, c1_i32_96⟩
def k0_mult2 (k0_t2 : Fin k0_t2_loop.trips) : BitVec 32 :=
  let c0_i32_95 : BitVec 32 := 0#32
  let c1_i32_96 : BitVec 32 := 1#32
  let arg26 : BitVec 32 := Scf.iv c0_i32_95 c1_i32_96 k0_t2
  let c64_i32 : BitVec 32 := 64#32
  let v186 : BitVec 32 := Scalar.muli arg26 c64_i32
  v186
def k0_off10 (k0_t2 : Fin k0_t2_loop.trips) : Fin 3 → Nat :=
  let c0_i32_95 : BitVec 32 := 0#32
  let c1_i32_96 : BitVec 32 := 1#32
  let arg26 : BitVec 32 := Scf.iv c0_i32_95 c1_i32_96 k0_t2
  let v190 : Index := Scalar.indexCast arg26
  let c0_119 : Index := 0#32
  let c0_120 : Index := 0#32
  ![v190.toNat, 0, 0]
def k0_off11 (k0_t2 : Fin k0_t2_loop.trips) : Fin 2 → Nat :=
  let c0_i32_95 : BitVec 32 := 0#32
  let c1_i32_96 : BitVec 32 := 1#32
  let arg26 : BitVec 32 := Scf.iv c0_i32_95 c1_i32_96 k0_t2
  let c64_i32 : BitVec 32 := 64#32
  let v186 : BitVec 32 := Scalar.muli arg26 c64_i32
  let v187 : BitVec 32 := v186
  let v195 : Index := Scalar.indexCast v187
  let c0_122 : Index := 0#32
  ![v195.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S7x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8x4096x1024 : Shape := ⟨3, ![8, 4096, 1024]⟩
abbrev S1024 : Shape := ⟨1, ![1024]⟩
abbrev S1024x3072 : Shape := ⟨2, ![1024, 3072]⟩
abbrev S31x512 : Shape := ⟨2, ![31, 512]⟩
abbrev S512 : Shape := ⟨1, ![512]⟩
abbrev S2x512 : Shape := ⟨2, ![2, 512]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4096x512 : Shape := ⟨3, ![8, 4096, 512]⟩
abbrev S8x4096x4x128 : Shape := ⟨4, ![8, 4096, 4, 128]⟩
abbrev S8x4126x512 : Shape := ⟨3, ![8, 4126, 512]⟩
abbrev S1x512 : Shape := ⟨2, ![1, 512]⟩
abbrev S1x1x512 : Shape := ⟨3, ![1, 1, 512]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S4096x4096 : Shape := ⟨2, ![4096, 4096]⟩
abbrev S8x4x128x4096 : Shape := ⟨4, ![8, 4, 128, 4096]⟩
abbrev S8x4096x1x4x128 : Shape := ⟨5, ![8, 4096, 1, 4, 128]⟩
abbrev S8x1x4096x4x128 : Shape := ⟨5, ![8, 1, 4096, 4, 128]⟩
abbrev S8x4096x4096x4x128 : Shape := ⟨5, ![8, 4096, 4096, 4, 128]⟩
abbrev S1x4096x4096x1x1 : Shape := ⟨5, ![1, 4096, 4096, 1, 1]⟩
abbrev S8x4096x4096x4 : Shape := ⟨4, ![8, 4096, 4096, 4]⟩
abbrev S8x4096x4096x4x1 : Shape := ⟨5, ![8, 4096, 4096, 4, 1]⟩
abbrev S8x4096x4 : Shape := ⟨3, ![8, 4096, 4]⟩
abbrev S8x4096x4x1 : Shape := ⟨4, ![8, 4096, 4, 1]⟩

abbrev nBuf : Space → Nat
  | .hbm => 403
  | .vmem => 0
  | .smem => 0
  | _ => 0

abbrev hbmTy0_0 (i : Nat) : BufTy := match i % 128 with
  | 0 => ⟨S8x4096x1024, .f32⟩
  | 1 => ⟨S1024, .f32⟩
  | 2 => ⟨S1024x3072, .f32⟩
  | 3 => ⟨S31x512, .f32⟩
  | 4 => ⟨S512, .f32⟩
  | 5 => ⟨S512, .f32⟩
  | 6 => ⟨S512, .f32⟩
  | 7 => ⟨S2x512, .f32⟩
  | 8 => ⟨S512, .f32⟩
  | 9 => ⟨S1024x1024, .f32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1x1024, .f32⟩
  | 24 => ⟨S8x4096x1024, .f32⟩
  | 25 => ⟨S8x4096x1024, .f32⟩
  | 26 => ⟨S8x4096x3072, .f32⟩
  | 27 => ⟨S8x4096x512, .f32⟩
  | 28 => ⟨S8x4096x512, .f32⟩
  | 29 => ⟨S8x4096x512, .f32⟩
  | 30 => ⟨S8x4096x512, .f32⟩
  | 31 => ⟨S_, .f32⟩
  | 32 => ⟨S8x4096x512, .f32⟩
  | 33 => ⟨S8x4096x512, .f32⟩
  | 34 => ⟨S_, .f32⟩
  | 35 => ⟨S8x4096x512, .f32⟩
  | 36 => ⟨S8x4096x512, .f32⟩
  | 37 => ⟨S8x4096x512, .f32⟩
  | 38 => ⟨S8x4096x512, .f32⟩
  | 39 => ⟨S8x4096x4x128, .f32⟩
  | 40 => ⟨S8x4096x512, .f32⟩
  | 41 => ⟨S8x4096x512, .f32⟩
  | 42 => ⟨S8x4096x4x128, .f32⟩
  | 43 => ⟨S8x4096x512, .f32⟩
  | 44 => ⟨S_, .i32⟩
  | 45 => ⟨S_, .f32⟩
  | 46 => ⟨S8x4126x512, .f32⟩
  | 47 => ⟨S8x4096x512, .f32⟩
  | 48 => ⟨S1x512, .f32⟩
  | 49 => ⟨S512, .f32⟩
  | 50 => ⟨S1x1x512, .f32⟩
  | 51 => ⟨S8x4096x512, .f32⟩
  | 52 => ⟨S8x4096x512, .f32⟩
  | 53 => ⟨S8x4096x512, .f32⟩
  | 54 => ⟨S1x512, .f32⟩
  | 55 => ⟨S512, .f32⟩
  | 56 => ⟨S1x1x512, .f32⟩
  | 57 => ⟨S8x4096x512, .f32⟩
  | 58 => ⟨S8x4096x512, .f32⟩
  | 59 => ⟨S8x4096x512, .f32⟩
  | 60 => ⟨S8x4096x512, .f32⟩
  | 61 => ⟨S1x512, .f32⟩
  | 62 => ⟨S512, .f32⟩
  | 63 => ⟨S1x1x512, .f32⟩
  | 64 => ⟨S8x4096x512, .f32⟩
  | 65 => ⟨S8x4096x512, .f32⟩
  | 66 => ⟨S8x4096x512, .f32⟩
  | 67 => ⟨S8x4096x512, .f32⟩
  | 68 => ⟨S1x512, .f32⟩
  | 69 => ⟨S512, .f32⟩
  | 70 => ⟨S1x1x512, .f32⟩
  | 71 => ⟨S8x4096x512, .f32⟩
  | 72 => ⟨S8x4096x512, .f32⟩
  | 73 => ⟨S8x4096x512, .f32⟩
  | 74 => ⟨S8x4096x512, .f32⟩
  | 75 => ⟨S1x512, .f32⟩
  | 76 => ⟨S512, .f32⟩
  | 77 => ⟨S1x1x512, .f32⟩
  | 78 => ⟨S8x4096x512, .f32⟩
  | 79 => ⟨S8x4096x512, .f32⟩
  | 80 => ⟨S8x4096x512, .f32⟩
  | 81 => ⟨S8x4096x512, .f32⟩
  | 82 => ⟨S1x512, .f32⟩
  | 83 => ⟨S512, .f32⟩
  | 84 => ⟨S1x1x512, .f32⟩
  | 85 => ⟨S8x4096x512, .f32⟩
  | 86 => ⟨S8x4096x512, .f32⟩
  | 87 => ⟨S8x4096x512, .f32⟩
  | 88 => ⟨S8x4096x512, .f32⟩
  | 89 => ⟨S1x512, .f32⟩
  | 90 => ⟨S512, .f32⟩
  | 91 => ⟨S1x1x512, .f32⟩
  | 92 => ⟨S8x4096x512, .f32⟩
  | 93 => ⟨S8x4096x512, .f32⟩
  | 94 => ⟨S8x4096x512, .f32⟩
  | 95 => ⟨S8x4096x512, .f32⟩
  | 96 => ⟨S1x512, .f32⟩
  | 97 => ⟨S512, .f32⟩
  | 98 => ⟨S1x1x512, .f32⟩
  | 99 => ⟨S8x4096x512, .f32⟩
  | 100 => ⟨S8x4096x512, .f32⟩
  | 101 => ⟨S8x4096x512, .f32⟩
  | 102 => ⟨S8x4096x512, .f32⟩
  | 103 => ⟨S1x512, .f32⟩
  | 104 => ⟨S512, .f32⟩
  | 105 => ⟨S1x1x512, .f32⟩
  | 106 => ⟨S8x4096x512, .f32⟩
  | 107 => ⟨S8x4096x512, .f32⟩
  | 108 => ⟨S8x4096x512, .f32⟩
  | 109 => ⟨S8x4096x512, .f32⟩
  | 110 => ⟨S1x512, .f32⟩
  | 111 => ⟨S512, .f32⟩
  | 112 => ⟨S1x1x512, .f32⟩
  | 113 => ⟨S8x4096x512, .f32⟩
  | 114 => ⟨S8x4096x512, .f32⟩
  | 115 => ⟨S8x4096x512, .f32⟩
  | 116 => ⟨S8x4096x512, .f32⟩
  | 117 => ⟨S1x512, .f32⟩
  | 118 => ⟨S512, .f32⟩
  | 119 => ⟨S1x1x512, .f32⟩
  | 120 => ⟨S8x4096x512, .f32⟩
  | 121 => ⟨S8x4096x512, .f32⟩
  | 122 => ⟨S8x4096x512, .f32⟩
  | 123 => ⟨S8x4096x512, .f32⟩
  | 124 => ⟨S1x512, .f32⟩
  | 125 => ⟨S512, .f32⟩
  | 126 => ⟨S1x1x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S8x4096x512, .f32⟩
  | 3 => ⟨S1x512, .f32⟩
  | 4 => ⟨S512, .f32⟩
  | 5 => ⟨S1x1x512, .f32⟩
  | 6 => ⟨S8x4096x512, .f32⟩
  | 7 => ⟨S8x4096x512, .f32⟩
  | 8 => ⟨S8x4096x512, .f32⟩
  | 9 => ⟨S8x4096x512, .f32⟩
  | 10 => ⟨S1x512, .f32⟩
  | 11 => ⟨S512, .f32⟩
  | 12 => ⟨S1x1x512, .f32⟩
  | 13 => ⟨S8x4096x512, .f32⟩
  | 14 => ⟨S8x4096x512, .f32⟩
  | 15 => ⟨S8x4096x512, .f32⟩
  | 16 => ⟨S8x4096x512, .f32⟩
  | 17 => ⟨S1x512, .f32⟩
  | 18 => ⟨S512, .f32⟩
  | 19 => ⟨S1x1x512, .f32⟩
  | 20 => ⟨S8x4096x512, .f32⟩
  | 21 => ⟨S8x4096x512, .f32⟩
  | 22 => ⟨S8x4096x512, .f32⟩
  | 23 => ⟨S8x4096x512, .f32⟩
  | 24 => ⟨S1x512, .f32⟩
  | 25 => ⟨S512, .f32⟩
  | 26 => ⟨S1x1x512, .f32⟩
  | 27 => ⟨S8x4096x512, .f32⟩
  | 28 => ⟨S8x4096x512, .f32⟩
  | 29 => ⟨S8x4096x512, .f32⟩
  | 30 => ⟨S8x4096x512, .f32⟩
  | 31 => ⟨S1x512, .f32⟩
  | 32 => ⟨S512, .f32⟩
  | 33 => ⟨S1x1x512, .f32⟩
  | 34 => ⟨S8x4096x512, .f32⟩
  | 35 => ⟨S8x4096x512, .f32⟩
  | 36 => ⟨S8x4096x512, .f32⟩
  | 37 => ⟨S8x4096x512, .f32⟩
  | 38 => ⟨S1x512, .f32⟩
  | 39 => ⟨S512, .f32⟩
  | 40 => ⟨S1x1x512, .f32⟩
  | 41 => ⟨S8x4096x512, .f32⟩
  | 42 => ⟨S8x4096x512, .f32⟩
  | 43 => ⟨S8x4096x512, .f32⟩
  | 44 => ⟨S8x4096x512, .f32⟩
  | 45 => ⟨S1x512, .f32⟩
  | 46 => ⟨S512, .f32⟩
  | 47 => ⟨S1x1x512, .f32⟩
  | 48 => ⟨S8x4096x512, .f32⟩
  | 49 => ⟨S8x4096x512, .f32⟩
  | 50 => ⟨S8x4096x512, .f32⟩
  | 51 => ⟨S8x4096x512, .f32⟩
  | 52 => ⟨S1x512, .f32⟩
  | 53 => ⟨S512, .f32⟩
  | 54 => ⟨S1x1x512, .f32⟩
  | 55 => ⟨S8x4096x512, .f32⟩
  | 56 => ⟨S8x4096x512, .f32⟩
  | 57 => ⟨S8x4096x512, .f32⟩
  | 58 => ⟨S8x4096x512, .f32⟩
  | 59 => ⟨S1x512, .f32⟩
  | 60 => ⟨S512, .f32⟩
  | 61 => ⟨S1x1x512, .f32⟩
  | 62 => ⟨S8x4096x512, .f32⟩
  | 63 => ⟨S8x4096x512, .f32⟩
  | 64 => ⟨S8x4096x512, .f32⟩
  | 65 => ⟨S8x4096x512, .f32⟩
  | 66 => ⟨S1x512, .f32⟩
  | 67 => ⟨S512, .f32⟩
  | 68 => ⟨S1x1x512, .f32⟩
  | 69 => ⟨S8x4096x512, .f32⟩
  | 70 => ⟨S8x4096x512, .f32⟩
  | 71 => ⟨S8x4096x512, .f32⟩
  | 72 => ⟨S8x4096x512, .f32⟩
  | 73 => ⟨S1x512, .f32⟩
  | 74 => ⟨S512, .f32⟩
  | 75 => ⟨S1x1x512, .f32⟩
  | 76 => ⟨S8x4096x512, .f32⟩
  | 77 => ⟨S8x4096x512, .f32⟩
  | 78 => ⟨S8x4096x512, .f32⟩
  | 79 => ⟨S8x4096x512, .f32⟩
  | 80 => ⟨S1x512, .f32⟩
  | 81 => ⟨S512, .f32⟩
  | 82 => ⟨S1x1x512, .f32⟩
  | 83 => ⟨S8x4096x512, .f32⟩
  | 84 => ⟨S8x4096x512, .f32⟩
  | 85 => ⟨S8x4096x512, .f32⟩
  | 86 => ⟨S8x4096x512, .f32⟩
  | 87 => ⟨S1x512, .f32⟩
  | 88 => ⟨S512, .f32⟩
  | 89 => ⟨S1x1x512, .f32⟩
  | 90 => ⟨S8x4096x512, .f32⟩
  | 91 => ⟨S8x4096x512, .f32⟩
  | 92 => ⟨S8x4096x512, .f32⟩
  | 93 => ⟨S8x4096x512, .f32⟩
  | 94 => ⟨S1x512, .f32⟩
  | 95 => ⟨S512, .f32⟩
  | 96 => ⟨S1x1x512, .f32⟩
  | 97 => ⟨S8x4096x512, .f32⟩
  | 98 => ⟨S8x4096x512, .f32⟩
  | 99 => ⟨S8x4096x512, .f32⟩
  | 100 => ⟨S8x4096x512, .f32⟩
  | 101 => ⟨S1x512, .f32⟩
  | 102 => ⟨S512, .f32⟩
  | 103 => ⟨S1x1x512, .f32⟩
  | 104 => ⟨S8x4096x512, .f32⟩
  | 105 => ⟨S8x4096x512, .f32⟩
  | 106 => ⟨S8x4096x512, .f32⟩
  | 107 => ⟨S8x4096x512, .f32⟩
  | 108 => ⟨S1x512, .f32⟩
  | 109 => ⟨S512, .f32⟩
  | 110 => ⟨S1x1x512, .f32⟩
  | 111 => ⟨S8x4096x512, .f32⟩
  | 112 => ⟨S8x4096x512, .f32⟩
  | 113 => ⟨S8x4096x512, .f32⟩
  | 114 => ⟨S8x4096x512, .f32⟩
  | 115 => ⟨S1x512, .f32⟩
  | 116 => ⟨S512, .f32⟩
  | 117 => ⟨S1x1x512, .f32⟩
  | 118 => ⟨S8x4096x512, .f32⟩
  | 119 => ⟨S8x4096x512, .f32⟩
  | 120 => ⟨S8x4096x512, .f32⟩
  | 121 => ⟨S8x4096x512, .f32⟩
  | 122 => ⟨S1x512, .f32⟩
  | 123 => ⟨S512, .f32⟩
  | 124 => ⟨S1x1x512, .f32⟩
  | 125 => ⟨S8x4096x512, .f32⟩
  | 126 => ⟨S8x4096x512, .f32⟩
  | 127 => ⟨S8x4096x512, .f32⟩
  | _ => ⟨S8x4096x1024, .f32⟩

abbrev hbmTy0_2 (i : Nat) : BufTy := match i % 128 with
  | 0 => ⟨S8x4096x512, .f32⟩
  | 1 => ⟨S1x512, .f32⟩
  | 2 => ⟨S512, .f32⟩
  | 3 => ⟨S1x1x512, .f32⟩
  | 4 => ⟨S8x4096x512, .f32⟩
  | 5 => ⟨S8x4096x512, .f32⟩
  | 6 => ⟨S8x4096x512, .f32⟩
  | 7 => ⟨S1x1x512, .f32⟩
  | 8 => ⟨S8x4096x512, .f32⟩
  | 9 => ⟨S8x4096x512, .f32⟩
  | 10 => ⟨S8x4096x8x64, .f32⟩
  | 11 => ⟨S_, .f32⟩
  | 12 => ⟨S8x4096x8, .f32⟩
  | 13 => ⟨S8x4096x8x1, .f32⟩
  | 14 => ⟨S_, .f32⟩
  | 15 => ⟨S8x4096x8x1, .f32⟩
  | 16 => ⟨S8x4096x8x1, .f32⟩
  | 17 => ⟨S8x4096x8x64, .f32⟩
  | 18 => ⟨S8x4096x8x64, .f32⟩
  | 19 => ⟨S8x4096x8x64, .f32⟩
  | 20 => ⟨S_, .f32⟩
  | 21 => ⟨S8x4096x8, .f32⟩
  | 22 => ⟨S8x4096x8x1, .f32⟩
  | 23 => ⟨S_, .f32⟩
  | 24 => ⟨S8x4096x8x1, .f32⟩
  | 25 => ⟨S8x4096x8x1, .f32⟩
  | 26 => ⟨S_, .f32⟩
  | 27 => ⟨S8x4096x8x1, .f32⟩
  | 28 => ⟨S8x4096x8x1, .f32⟩
  | 29 => ⟨S8x4096x8x1, .f32⟩
  | 30 => ⟨S8x4096x8x64, .f32⟩
  | 31 => ⟨S8x4096x8x64, .f32⟩
  | 32 => ⟨S8x4096x512, .f32⟩
  | 33 => ⟨S1x1x512, .f32⟩
  | 34 => ⟨S8x4096x512, .f32⟩
  | 35 => ⟨S8x4096x512, .f32⟩
  | 36 => ⟨S1x1x512, .f32⟩
  | 37 => ⟨S8x4096x512, .f32⟩
  | 38 => ⟨S8x4096x512, .f32⟩
  | 39 => ⟨S8x4096x512, .f32⟩
  | 40 => ⟨S8x4096x512, .f32⟩
  | 41 => ⟨S_, .f32⟩
  | 42 => ⟨S8x4096x512, .f32⟩
  | 43 => ⟨S8x4096x512, .f32⟩
  | 44 => ⟨S_, .f32⟩
  | 45 => ⟨S8x4096x512, .f32⟩
  | 46 => ⟨S8x4096x512, .f32⟩
  | 47 => ⟨S8x4096x512, .f32⟩
  | 48 => ⟨S_, .f32⟩
  | 49 => ⟨S512, .f32⟩
  | 50 => ⟨S1x512, .f32⟩
  | 51 => ⟨S2x512, .f32⟩
  | 52 => ⟨S2x512, .f32⟩
  | 53 => ⟨S2x512, .f32⟩
  | 54 => ⟨S_, .f32⟩
  | 55 => ⟨S512, .f32⟩
  | 56 => ⟨S1x512, .f32⟩
  | 57 => ⟨S2x512, .f32⟩
  | 58 => ⟨S2x512, .f32⟩
  | 59 => ⟨S1x512, .f32⟩
  | 60 => ⟨S512, .f32⟩
  | 61 => ⟨S_, .f32⟩
  | 62 => ⟨S512, .f32⟩
  | 63 => ⟨S512, .f32⟩
  | 64 => ⟨S8x4096x512, .f32⟩
  | 65 => ⟨S8x4096x512, .f32⟩
  | 66 => ⟨S_, .f32⟩
  | 67 => ⟨S8x4096x512, .f32⟩
  | 68 => ⟨S8x4096x512, .f32⟩
  | 69 => ⟨S_, .f32⟩
  | 70 => ⟨S8x4096x512, .f32⟩
  | 71 => ⟨S8x4096x512, .f32⟩
  | 72 => ⟨S1x1x512, .f32⟩
  | 73 => ⟨S8x4096x512, .f32⟩
  | 74 => ⟨S8x4096x512, .f32⟩
  | 75 => ⟨S1x1x512, .f32⟩
  | 76 => ⟨S8x4096x512, .f32⟩
  | 77 => ⟨S8x4096x512, .f32⟩
  | 78 => ⟨S_, .f32⟩
  | 79 => ⟨S8x4096x512, .f32⟩
  | 80 => ⟨S8x4096x512, .f32⟩
  | 81 => ⟨S8x4096x4x128, .f32⟩
  | 82 => ⟨S4096x4096, .i32⟩
  | 83 => ⟨S4096x4096, .i32⟩
  | 84 => ⟨S4096x4096, .i1⟩
  | 85 => ⟨S8x4096x512, .f32⟩
  | 86 => ⟨S8x4096x4x128, .f32⟩
  | 87 => ⟨S4096x4096, .f32⟩
  | 88 => ⟨S8x4x128x4096, .f32⟩
  | 89 => ⟨S8x4096x4x128, .f32⟩
  | 90 => ⟨S8x4096x1x4x128, .f32⟩
  | 91 => ⟨S8x1x4096x4x128, .f32⟩
  | 92 => ⟨S8x4096x4096x4x128, .f32⟩
  | 93 => ⟨S8x4096x4096x4x128, .f32⟩
  | 94 => ⟨S8x4096x4096x4x128, .f32⟩
  | 95 => ⟨S1x4096x4096x1x1, .i1⟩
  | 96 => ⟨S_, .f32⟩
  | 97 => ⟨S_, .f32⟩
  | 98 => ⟨S8x4096x4096x4x128, .i1⟩
  | 99 => ⟨S8x4096x4096x4x128, .f32⟩
  | 100 => ⟨S8x4096x4096x4x128, .f32⟩
  | 101 => ⟨S8x4096x4096x4x128, .f32⟩
  | 102 => ⟨S8x4096x1x4x128, .f32⟩
  | 103 => ⟨S8x1x4096x4x128, .f32⟩
  | 104 => ⟨S8x4096x4096x4x128, .f32⟩
  | 105 => ⟨S8x4096x4096x4x128, .f32⟩
  | 106 => ⟨S8x4096x4096x4x128, .f32⟩
  | 107 => ⟨S8x4096x4096x4x128, .f32⟩
  | 108 => ⟨S_, .f32⟩
  | 109 => ⟨S8x4096x4096x4, .f32⟩
  | 110 => ⟨S8x4096x4096x4x1, .f32⟩
  | 111 => ⟨S8x1x4096x4x128, .f32⟩
  | 112 => ⟨S8x4096x4096x4x128, .f32⟩
  | 113 => ⟨S8x4096x4096x4x128, .f32⟩
  | 114 => ⟨S8x4096x4096x4x128, .f32⟩
  | 115 => ⟨S_, .f32⟩
  | 116 => ⟨S8x4096x4x128, .f32⟩
  | 117 => ⟨S8x4096x4x128, .f32⟩
  | 118 => ⟨S_, .f32⟩
  | 119 => ⟨S8x4096x4, .f32⟩
  | 120 => ⟨S8x4096x4x1, .f32⟩
  | 121 => ⟨S_, .f32⟩
  | 122 => ⟨S8x4096x4x1, .f32⟩
  | 123 => ⟨S8x4096x4x1, .f32⟩
  | 124 => ⟨S_, .f32⟩
  | 125 => ⟨S8x4096x4x1, .f32⟩
  | 126 => ⟨S8x4096x4x1, .f32⟩
  | 127 => ⟨S8x4096x4x1, .f32⟩
  | _ => ⟨S8x4096x1024, .f32⟩

abbrev hbmTy0_3 (i : Nat) : BufTy := match i % 128 with
  | 0 => ⟨S8x4096x4x128, .f32⟩
  | 1 => ⟨S8x4096x4x128, .f32⟩
  | 2 => ⟨S8x4096x512, .f32⟩
  | 3 => ⟨S1x1x512, .f32⟩
  | 4 => ⟨S8x4096x512, .f32⟩
  | 5 => ⟨S8x4096x512, .f32⟩
  | 6 => ⟨S8x4096x512, .f32⟩
  | 7 => ⟨S8x4096x512, .f32⟩
  | 8 => ⟨S_, .f32⟩
  | 9 => ⟨S8x4096x512, .f32⟩
  | 10 => ⟨S8x4096x512, .f32⟩
  | 11 => ⟨S_, .f32⟩
  | 12 => ⟨S8x4096x512, .f32⟩
  | 13 => ⟨S8x4096x512, .f32⟩
  | 14 => ⟨S8x4096x512, .f32⟩
  | 15 => ⟨S8x4096x512, .f32⟩
  | 16 => ⟨S8x4096x1024, .f32⟩
  | 17 => ⟨S8x4096x1024, .f32⟩
  | 18 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_cst_4 : Ref sig .tc := ⟨.hbm, 267, rfl⟩
abbrev main_v250 : Ref sig .tc := ⟨.hbm, 268, rfl⟩
abbrev main_v251 : Ref sig .tc := ⟨.hbm, 269, rfl⟩
abbrev main_cst_5 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_cst_6 : Ref sig .tc := ⟨.hbm, 276, rfl⟩
abbrev main_v257 : Ref sig .tc := ⟨.hbm, 277, rfl⟩
abbrev main_v258 : Ref sig .tc := ⟨.hbm, 278, rfl⟩
abbrev main_cst_7 : Ref sig .tc := ⟨.hbm, 279, rfl⟩
abbrev main_v259 : Ref sig .tc := ⟨.hbm, 280, rfl⟩
abbrev main_v260 : Ref sig .tc := ⟨.hbm, 281, rfl⟩
abbrev main_cst_8 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_call1_v0 : Ref sig .tc := ⟨.hbm, 295, rfl⟩
abbrev main_call1_v1 : Ref sig .tc := ⟨.hbm, 296, rfl⟩
abbrev main_call1_cst : Ref sig .tc := ⟨.hbm, 297, rfl⟩
abbrev main_call1_v2 : Ref sig .tc := ⟨.hbm, 298, rfl⟩
abbrev main_call1_v3 : Ref sig .tc := ⟨.hbm, 299, rfl⟩
abbrev main_call1_cst_0 : Ref sig .tc := ⟨.hbm, 300, rfl⟩
abbrev main_call1_v4 : Ref sig .tc := ⟨.hbm, 301, rfl⟩
abbrev main_call1_v5 : Ref sig .tc := ⟨.hbm, 302, rfl⟩
abbrev main_v273 : Ref sig .tc := ⟨.hbm, 303, rfl⟩
abbrev main_cst_9 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_cst_10 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_v284 : Ref sig .tc := ⟨.hbm, 316, rfl⟩
abbrev main_cst_11 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_cst_12 : Ref sig .tc := ⟨.hbm, 322, rfl⟩
abbrev main_v289 : Ref sig .tc := ⟨.hbm, 323, rfl⟩
abbrev main_v290 : Ref sig .tc := ⟨.hbm, 324, rfl⟩
abbrev main_cst_13 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_v294 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_cst_14 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_cst_15 : Ref sig .tc := ⟨.hbm, 352, rfl⟩
abbrev main_call2_v0 : Ref sig .tc := ⟨.hbm, 353, rfl⟩
abbrev main_call2_v1 : Ref sig .tc := ⟨.hbm, 354, rfl⟩
abbrev main_call2_v2 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_cst_16 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩
abbrev main_cst_17 : Ref sig .tc := ⟨.hbm, 371, rfl⟩
abbrev main_v330 : Ref sig .tc := ⟨.hbm, 372, rfl⟩
abbrev main_v331 : Ref sig .tc := ⟨.hbm, 373, rfl⟩
abbrev main_cst_18 : Ref sig .tc := ⟨.hbm, 374, rfl⟩
abbrev main_v332 : Ref sig .tc := ⟨.hbm, 375, rfl⟩
abbrev main_v333 : Ref sig .tc := ⟨.hbm, 376, rfl⟩
abbrev main_cst_19 : Ref sig .tc := ⟨.hbm, 377, rfl⟩
abbrev main_v334 : Ref sig .tc := ⟨.hbm, 378, rfl⟩
abbrev main_v335 : Ref sig .tc := ⟨.hbm, 379, rfl⟩
abbrev main_cst_20 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_v341 : Ref sig .tc := ⟨.hbm, 386, rfl⟩
abbrev main_v342 : Ref sig .tc := ⟨.hbm, 387, rfl⟩
abbrev main_v343 : Ref sig .tc := ⟨.hbm, 388, rfl⟩
abbrev main_v344 : Ref sig .tc := ⟨.hbm, 389, rfl⟩
abbrev main_call3_v0 : Ref sig .tc := ⟨.hbm, 390, rfl⟩
abbrev main_call3_v1 : Ref sig .tc := ⟨.hbm, 391, rfl⟩
abbrev main_call3_cst : Ref sig .tc := ⟨.hbm, 392, rfl⟩
abbrev main_call3_v2 : Ref sig .tc := ⟨.hbm, 393, rfl⟩
abbrev main_call3_v3 : Ref sig .tc := ⟨.hbm, 394, rfl⟩
abbrev main_call3_cst_0 : Ref sig .tc := ⟨.hbm, 395, rfl⟩
abbrev main_call3_v4 : Ref sig .tc := ⟨.hbm, 396, rfl⟩
abbrev main_call3_v5 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩

abbrev nD : Nat := 1
abbrev τ : Topo := Topo.v7x

variable {F : FTy → Type} [FloatOps F]
-- ==== Kernel2.lean ====
abbrev S32768x1024 : Shape := ⟨2, ![32768, 1024]⟩
abbrev S32768x256 : Shape := ⟨2, ![32768, 256]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S256x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S256x1024, .bf16⟩
  | .hbm, ⟨13, _⟩ => ⟨S1x1024, .f32⟩
  | .hbm, ⟨14, _⟩ => ⟨S1024x1024, .bf16⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S256x1024, .bf16⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x1024 : Shape := ⟨2, ![32768, 1024]⟩
abbrev S32768x256 : Shape := ⟨2, ![32768, 256]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 76
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S256x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S32768x4096, .f32⟩
  | .hbm, ⟨26, _⟩ => ⟨S_, .f32⟩
  | .hbm, ⟨27, _⟩ => ⟨S32768x4096, .f32⟩
  | .hbm, ⟨28, _⟩ => ⟨S32768x4096, .f32⟩
  | .hbm, ⟨29, _⟩ => ⟨S32768x4096, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768, .f32⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S32768x1, .f32⟩
  | .hbm, ⟨71, _⟩ => ⟨S32768x1024, .f32⟩
  | .hbm, ⟨72, _⟩ => ⟨S32768x1024, .f32⟩
  | .hbm, ⟨73, _⟩ => ⟨S1x1024, .f32⟩
  | .hbm, ⟨74, _⟩ => ⟨S32768x1024, .f32⟩
  | .hbm, ⟨75, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Proof.MixHeadIdeal.lean ====
/- The gated unit of the convolution branch, at the first tile of a batch entry: the carried buffers are cleared first. -/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body clears its carried buffers: the second grid coordinate is zero. -/
abbrev fresh (i : grid0.Coords) : Prop :=
  (Scalar.cmpi .ne (Scalar.extui (Scalar.cmpi .eq (BitVec.ofNat 32 (i 1).val) 0#32)) 0#32) = 1#1

set_option maxHeartbeats 2000000 in
/-- The gated unit of the convolution branch, at the first tile of a batch entry: the carried buffers are cleared first. -/
def headFirst
    (c : Dev nD) (i : grid0.Coords) (a2 : Memref sig .tc .vmem S1x512x1024 .f32) (w2 : a2.IsWhole) (a3 : Memref sig .tc .vmem S1x1024 .f32) (w3 :
    a3.IsWhole) (a4 : Memref sig .tc .vmem S1024x3072 .bf16) (w4 : a4.IsWhole) (a5 : Memref sig .tc .vmem S31x512 .f32) (w5 : a5.IsWhole) (a6 :
    Memref sig .tc .vmem S1x512 .f32) (w6 : a6.IsWhole) (a7 : Memref sig .tc .vmem S1x512 .f32) (w7 : a7.IsWhole) (a8 : Memref sig .tc .vmem
    S1x512 .f32) (w8 : a8.IsWhole) (a9 : Memref sig .tc .vmem S2x512 .f32) (w9 : a9.IsWhole) (a10 : Memref sig .tc .vmem S1x512 .f32) (w10 :
    a10.IsWhole) (a11 : Memref sig .tc .vmem S1024x1024 .bf16) (w11 : a11.IsWhole) (a12 : Memref sig .tc .vmem S512x512 .bf16) (w12 :
    a12.IsWhole) (a13 : Memref sig .tc .vmem S512x512 .bf16) (w13 : a13.IsWhole) (a14 : Memref sig .tc .vmem S512x128 .bf16) (w14 : a14.IsWhole)
    (a15 : Memref sig .tc .vmem S7x64x64 .f32) (w15 : a15.IsWhole) (a16 : Memref sig .tc .vmem S1x512x1024 .f32) (w16 : a16.IsWhole) (a17 :
    Memref sig .tc .vmem S8x544x512 .f32) (w17 : a17.IsWhole) (a18 : Memref sig .tc .vmem S512x512 .f32) (w18 : a18.IsWhole) (a19 : Memref sig
    .tc .vmem S512x512 .f32) (w19 : a19.IsWhole) (a20 : Memref sig .tc .vmem S512x512 .f32) (w20 : a20.IsWhole) (a21 : Memref sig .tc .vmem
    S512x512 .f32) (w21 : a21.IsWhole) (a22 : Memref sig .tc .vmem S512x512 .f32) (w22 : a22.IsWhole) (a23 : Memref sig .tc .vmem S8x128x512
    .bf16) (w23 : a23.IsWhole) (a24 : Memref sig .tc .vmem S512x512 .f32) (w24 : a24.IsWhole) (a25 : Memref sig .tc .vmem S4x128x128 .f32) (w25 :
    a25.IsWhole)
    (hc : fresh i)
    (x2 : Vec F S1x512x1024 .f32) (x3 : Vec F S1x1024 .f32) (x4 : Vec F S1024x3072 .bf16) (x17 : Vec F S8x544x512 .f32) (x25 : Vec F S4x128x128 .f32) :
    Σ' (Y17 : Vec F S8x544x512 .f32) (Y25 : Vec F S4x128x128 .f32),
      { r : (Σ' (v4 : FVec F S512x1024 .f32) (v19 : FVec F S512x1024 .bf16), FVec F S536x512 .f32) // ∀ (E : Set ℕ) (K : _ → sProp 𝕄),
        iprop(owns (c : Thread nD τ) a2 fullShare x2 ∗
          owns (c : Thread nD τ) a3 fullShare x3 ∗
          owns (c : Thread nD τ) a4 fullShare x4 ∗
          owns (c : Thread nD τ) a17 fullShare x17 ∗
          owns (c : Thread nD τ) a25 fullShare x25
          ∗ (iprop(owns (c : Thread nD τ) a2 fullShare x2 ∗
              owns (c : Thread nD τ) a3 fullShare x3 ∗
              owns (c : Thread nD τ) a4 fullShare x4 ∗
              owns (c : Thread nD τ) a17 fullShare Y17 ∗
              owns (c : Thread nD τ) a25 fullShare Y25) -∗ K r))
        ⊢ wp frame (wpE (defs₀ (F := F)) Variants.none c none) E (k0_part16 i a2 w2 a3 w3 a4 w4 a5 w5 a6 w6 a7 w7 a8 w8 a9 w9 a10 w10 a11 w11 a12 w12 a13 w13 a14 w14 a15 w15 a16 w16 a17 w17 a18 w18 a19 w19 a20 w20 a21 w21
          a22 w22 a23 w23 a24 w24 a25 w25) K } := by
  refine ⟨?_, ?_, ?_, fun E K => ?run⟩
  case run =>
    simp only [k0_part16_eq_skeleton]; unfold k0_part16_skel; unfold owns
    iintro ⟨⟨%f2, %hf2, A2⟩, ⟨%f3, %hf3, A3⟩, ⟨%f4, %hf4, A4⟩, ⟨%f17, %hf17, A17⟩, ⟨%f25, %hf25, A25⟩, Hk⟩
    obtain rfl := w2.eq_unread hf2
    obtain rfl := w3.eq_unread hf3
    obtain rfl := w4.eq_unread hf4
    obtain rfl := w17.eq_unread hf17
    obtain rfl := w25.eq_unread hf25
    sl_exec (disch := first | sl_exact hc)
    sl_step
    iapply Hk
    isplitl [A2]
    · iexists _; isplitr
      · ipureintro; exact w2.read_unread _
      iexact A2
    isplitl [A3]
    · iexists _; isplitr
      · ipureintro; exact w3.read_unread _
      iexact A3
    isplitl [A4]
    · iexists _; isplitr
      · ipureintro; exact w4.read_unread _
      iexact A4
    isplitl [A17]
    · iexists _; isplitr; swap
      · iexact A17
      ipureintro; rfl
    iexists _; isplitr; swap
    · iexact A25
    ipureintro; rfl

end Cert.KernelIdeal.Mix

end
-- ==== Proof.MixHeadLaterIdeal.lean ====
/- The gated unit of the convolution branch, at a later tile of a batch entry. -/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.MixHeadIdeal

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The gated unit of the convolution branch, at a later tile of a batch entry. -/
def headLater
    (c : Dev nD) (i : grid0.Coords) (a2 : Memref sig .tc .vmem S1x512x1024 .f32) (w2 : a2.IsWhole) (a3 : Memref sig .tc .vmem S1x1024 .f32) (w3 :
    a3.IsWhole) (a4 : Memref sig .tc .vmem S1024x3072 .bf16) (w4 : a4.IsWhole) (a5 : Memref sig .tc .vmem S31x512 .f32) (w5 : a5.IsWhole) (a6 :
    Memref sig .tc .vmem S1x512 .f32) (w6 : a6.IsWhole) (a7 : Memref sig .tc .vmem S1x512 .f32) (w7 : a7.IsWhole) (a8 : Memref sig .tc .vmem
    S1x512 .f32) (w8 : a8.IsWhole) (a9 : Memref sig .tc .vmem S2x512 .f32) (w9 : a9.IsWhole) (a10 : Memref sig .tc .vmem S1x512 .f32) (w10 :
    a10.IsWhole) (a11 : Memref sig .tc .vmem S1024x1024 .bf16) (w11 : a11.IsWhole) (a12 : Memref sig .tc .vmem S512x512 .bf16) (w12 :
    a12.IsWhole) (a13 : Memref sig .tc .vmem S512x512 .bf16) (w13 : a13.IsWhole) (a14 : Memref sig .tc .vmem S512x128 .bf16) (w14 : a14.IsWhole)
    (a15 : Memref sig .tc .vmem S7x64x64 .f32) (w15 : a15.IsWhole) (a16 : Memref sig .tc .vmem S1x512x1024 .f32) (w16 : a16.IsWhole) (a17 :
    Memref sig .tc .vmem S8x544x512 .f32) (w17 : a17.IsWhole) (a18 : Memref sig .tc .vmem S512x512 .f32) (w18 : a18.IsWhole) (a19 : Memref sig
    .tc .vmem S512x512 .f32) (w19 : a19.IsWhole) (a20 : Memref sig .tc .vmem S512x512 .f32) (w20 : a20.IsWhole) (a21 : Memref sig .tc .vmem
    S512x512 .f32) (w21 : a21.IsWhole) (a22 : Memref sig .tc .vmem S512x512 .f32) (w22 : a22.IsWhole) (a23 : Memref sig .tc .vmem S8x128x512
    .bf16) (w23 : a23.IsWhole) (a24 : Memref sig .tc .vmem S512x512 .f32) (w24 : a24.IsWhole) (a25 : Memref sig .tc .vmem S4x128x128 .f32) (w25 :
    a25.IsWhole)
    (hc : ¬ fresh i)
    (x2 : Vec F S1x512x1024 .f32) (x3 : Vec F S1x1024 .f32) (x4 : Vec F S1024x3072 .bf16) (x17 : Vec F S8x544x512 .f32) (x25 : Vec F S4x128x128 .f32) :
    Σ' (Y17 : Vec F S8x544x512 .f32) (Y25 : Vec F S4x128x128 .f32),
      { r : (Σ' (v4 : FVec F S512x1024 .f32) (v19 : FVec F S512x1024 .bf16), FVec F S536x512 .f32) // ∀ (E : Set ℕ) (K : _ → sProp 𝕄),
        iprop(owns (c : Thread nD τ) a2 fullShare x2 ∗
          owns (c : Thread nD τ) a3 fullShare x3 ∗
          owns (c : Thread nD τ) a4 fullShare x4 ∗
          owns (c : Thread nD τ) a17 fullShare x17 ∗
          owns (c : Thread nD τ) a25 fullShare x25
          ∗ (iprop(owns (c : Thread nD τ) a2 fullShare x2 ∗
              owns (c : Thread nD τ) a3 fullShare x3 ∗
              owns (c : Thread nD τ) a4 fullShare x4 ∗
              owns (c : Thread nD τ) a17 fullShare Y17 ∗
              owns (c : Thread nD τ) a25 fullShare Y25) -∗ K r))
        ⊢ wp frame (wpE (defs₀ (F := F)) Variants.none c none) E (k0_part16 i a2 w2 a3 w3 a4 w4 a5 w5 a6 w6 a7 w7 a8 w8 a9 w9 a10 w10 a11 w11 a12 w12 a13 w13 a14 w14 a15 w15 a16 w16 a17 w17 a18 w18 a19 w19 a20 w20 a21 w21
          a22 w22 a23 w23 a24 w24 a25 w25) K } := by
  refine ⟨?_, ?_, ?_, fun E K => ?run⟩
  case run =>
    simp only [k0_part16_eq_skeleton]; unfold k0_part16_skel; unfold owns
    iintro ⟨⟨%f2, %hf2, A2⟩, ⟨%f3, %hf3, A3⟩, ⟨%f4, %hf4, A4⟩, ⟨%f17, %hf17, A17⟩, ⟨%f25, %hf25, A25⟩, Hk⟩
    obtain rfl := w2.eq_unread hf2
    obtain rfl := w3.eq_unread hf3
    obtain rfl := w4.eq_unread hf4
    obtain rfl := w17.eq_unread hf17
    obtain rfl := w25.eq_unread hf25
    sl_exec (disch := first | sl_exact hc)
    sl_step
    iapply Hk
    isplitl [A2]
    · iexists _; isplitr
      · ipureintro; exact w2.read_unread _
      iexact A2
    isplitl [A3]
    · iexists _; isplitr
      · ipureintro; exact w3.read_unread _
      iexact A3
    isplitl [A4]
    · iexists _; isplitr
      · ipureintro; exact w4.read_unread _
      iexact A4
    isplitl [A17]
    · iexists _; isplitr; swap
      · iexact A17
      ipureintro; rfl
    iexists _; isplitr; swap
    · iexact A25
    ipureintro; rfl

end Cert.KernelIdeal.Mix

end
-- ==== Proof.MixShiftIdeal.lean ====
/- The shifted copies of the gated unit, one after another. -/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.MixHeadLaterIdeal

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The shifted copies of the gated unit, one after another. -/
def shifts
    (c : Dev nD) (i : grid0.Coords) (a2 : Memref sig .tc .vmem S1x512x1024 .f32) (w2 : a2.IsWhole) (a3 : Memref sig .tc .vmem S1x1024 .f32) (w3 :
    a3.IsWhole) (a4 : Memref sig .tc .vmem S1024x3072 .bf16) (w4 : a4.IsWhole) (a5 : Memref sig .tc .vmem S31x512 .f32) (w5 : a5.IsWhole) (a6 :
    Memref sig .tc .vmem S1x512 .f32) (w6 : a6.IsWhole) (a7 : Memref sig .tc .vmem S1x512 .f32) (w7 : a7.IsWhole) (a8 : Memref sig .tc .vmem
    S1x512 .f32) (w8 : a8.IsWhole) (a9 : Memref sig .tc .vmem S2x512 .f32) (w9 : a9.IsWhole) (a10 : Memref sig .tc .vmem S1x512 .f32) (w10 :
    a10.IsWhole) (a11 : Memref sig .tc .vmem S1024x1024 .bf16) (w11 : a11.IsWhole) (a12 : Memref sig .tc .vmem S512x512 .bf16) (w12 :
    a12.IsWhole) (a13 : Memref sig .tc .vmem S512x512 .bf16) (w13 : a13.IsWhole) (a14 : Memref sig .tc .vmem S512x128 .bf16) (w14 : a14.IsWhole)
    (a15 : Memref sig .tc .vmem S7x64x64 .f32) (w15 : a15.IsWhole) (a16 : Memref sig .tc .vmem S1x512x1024 .f32) (w16 : a16.IsWhole) (a17 :
    Memref sig .tc .vmem S8x544x512 .f32) (w17 : a17.IsWhole) (a18 : Memref sig .tc .vmem S512x512 .f32) (w18 : a18.IsWhole) (a19 : Memref sig
    .tc .vmem S512x512 .f32) (w19 : a19.IsWhole) (a20 : Memref sig .tc .vmem S512x512 .f32) (w20 : a20.IsWhole) (a21 : Memref sig .tc .vmem
    S512x512 .f32) (w21 : a21.IsWhole) (a22 : Memref sig .tc .vmem S512x512 .f32) (w22 : a22.IsWhole) (a23 : Memref sig .tc .vmem S8x128x512
    .bf16) (w23 : a23.IsWhole) (a24 : Memref sig .tc .vmem S512x512 .f32) (w24 : a24.IsWhole) (a25 : Memref sig .tc .vmem S4x128x128 .f32) (w25 :
    a25.IsWhole)
    (v31 : FVec F S536x512 .f32)
    (x17 : Vec F S8x544x512 .f32) :
    Σ' (Y17 : Vec F S8x544x512 .f32),
      { r : (FVec F S536x512 .f32) // ∀ (E : Set ℕ) (K : _ → sProp 𝕄),
        iprop(owns (c : Thread nD τ) a17 fullShare x17
          ∗ (iprop(owns (c : Thread nD τ) a17 fullShare Y17) -∗ K r))
        ⊢ wp frame (wpE (defs₀ (F := F)) Variants.none c none) E (k0_part17 i a2 w2 a3 w3 a4 w4 a5 w5 a6 w6 a7 w7 a8 w8 a9 w9 a10 w10 a11 w11 a12 w12 a13 w13 a14 w14 a15 w15 a16 w16 a17 w17 a18 w18 a19 w19 a20 w20 a21 w21
          a22 w22 a23 w23 a24 w24 a25 w25 v31) K } := by
  refine ⟨?_, ?_, fun E K => ?run⟩
  case run =>
    simp only [k0_part17_eq_skeleton]; unfold k0_part17_skel; unfold owns
    iintro ⟨⟨%f17, %hf17, A17⟩, Hk⟩
    obtain rfl := w17.eq_unread hf17
    sl_exec
    sl_step
    iapply Hk
    iexists _; isplitr; swap
    · iexact A17
    ipureintro; rfl

end Cert.KernelIdeal.Mix

end
-- ==== Proof.MixTailIdeal.lean ====
/- The last steps of the body. -/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.MixShiftIdeal

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last steps of the body: the gated output of the recurrence, the two output products and the residual. -/
def mixTail (i : grid0.Coords) (a2 : Memref sig .tc .vmem S1x512x1024 .f32) (w2 : a2.IsWhole) (a3 : Memref sig .tc .vmem S1x1024 .f32) (w3 : a3.IsWhole) (a4 : Memref sig .tc
    .vmem S1024x3072 .bf16) (w4 : a4.IsWhole) (a5 : Memref sig .tc .vmem S31x512 .f32) (w5 : a5.IsWhole) (a6 : Memref sig .tc .vmem S1x512 .f32)
    (w6 : a6.IsWhole) (a7 : Memref sig .tc .vmem S1x512 .f32) (w7 : a7.IsWhole) (a8 : Memref sig .tc .vmem S1x512 .f32) (w8 : a8.IsWhole) (a9 :
    Memref sig .tc .vmem S2x512 .f32) (w9 : a9.IsWhole) (a10 : Memref sig .tc .vmem S1x512 .f32) (w10 : a10.IsWhole) (a11 : Memref sig .tc .vmem
    S1024x1024 .bf16) (w11 : a11.IsWhole) (a12 : Memref sig .tc .vmem S512x512 .bf16) (w12 : a12.IsWhole) (a13 : Memref sig .tc .vmem S512x512
    .bf16) (w13 : a13.IsWhole) (a14 : Memref sig .tc .vmem S512x128 .bf16) (w14 : a14.IsWhole) (a15 : Memref sig .tc .vmem S7x64x64 .f32) (w15 :
    a15.IsWhole) (a16 : Memref sig .tc .vmem S1x512x1024 .f32) (w16 : a16.IsWhole) (a17 : Memref sig .tc .vmem S8x544x512 .f32) (w17 :
    a17.IsWhole) (a18 : Memref sig .tc .vmem S512x512 .f32) (w18 : a18.IsWhole) (a19 : Memref sig .tc .vmem S512x512 .f32) (w19 : a19.IsWhole)
    (a20 : Memref sig .tc .vmem S512x512 .f32) (w20 : a20.IsWhole) (a21 : Memref sig .tc .vmem S512x512 .f32) (w21 : a21.IsWhole) (a22 : Memref
    sig .tc .vmem S512x512 .f32) (w22 : a22.IsWhole) (a23 : Memref sig .tc .vmem S8x128x512 .bf16) (w23 : a23.IsWhole) (a24 : Memref sig .tc
    .vmem S512x512 .f32) (w24 : a24.IsWhole) (a25 : Memref sig .tc .vmem S4x128x128 .f32) (w25 : a25.IsWhole)
    (v4 : FVec F S512x1024 .f32) (v96 : FVec F S512x512 .bf16) (v156 : Vec F S512x512 .f32) (v158 : FVec F S512x512 .bf16) :
    Prog (TpuEff nD τ sig (Elt F) Λ₀ .tc) PUnit := do
  let v159 : Vec F S512x512 .bf16 ← Prog.lift (.load a13 (Rect.unit (s := S512x512) ![0, 0] S512x512.size inb_S512x512_S512x512_0_0).toLoadRect (View.loadsAt_vmem h_S512x512))
  let v166 : Vec F S1x512 .f32 ← Prog.lift (.load a10 (Rect.unit (s := S1x512) ![0, 0] S1x512.size inb_S1x512_S1x512_0_0).toLoadRect (View.loadsAt_vmem h_S1x512))
  let v170 : Vec F S512x512 .f32 ← Prog.lift (.load a22 (Rect.unit (s := S512x512) ![0, 0] S512x512.size inb_S512x512_S512x512_0_0).toLoadRect (View.loadsAt_vmem h_S512x512))
  let v175 : Vec F S512x1024 .bf16 ← Prog.lift (.load a11 (Rect.unit (s := S1024x1024) ![0, 0] S512x1024.size inb_S1024x1024_S512x1024_0_0).toLoadRect (View.loadsAt_vmem h_S512x1024))
  let v179 : Vec F S512x1024 .bf16 ← Prog.lift (.load a11 (Rect.unit (s := S1024x1024) ![512, 0] S512x1024.size inb_S1024x1024_S512x1024_512_0).toLoadRect (View.loadsAt_vmem h_S512x1024))
  let v183 : Vec F S1x512x1024 .f32 ← Prog.lift (.load a16 (Rect.unit (s := S1x512x1024) ![0, 0, 0] S1x512x1024.size inb_S1x512x1024_S1x512x1024_0_0_0).toLoadRect (View.loadsAt_vmem h_S1x512x1024))
  Prog.lift (.store a16 (Rect.unit (s := S1x512x1024) ![0, 0, 0] S1x512x1024.size inb_S1x512x1024_S1x512x1024_0_0_0) (k0_pay1 v4 v96 v156 v158 v159 v166 v170 v175 v179) Finset.univ (View.stores_vmem_bits_univ h_S1x512x1024 rfl) (.inl rfl))
  pure ⟨⟩

set_option maxHeartbeats 2000000 in
/-- The last steps of the body. -/
def tail
    (c : Dev nD) (i : grid0.Coords) (a2 : Memref sig .tc .vmem S1x512x1024 .f32) (w2 : a2.IsWhole) (a3 : Memref sig .tc .vmem S1x1024 .f32) (w3 :
    a3.IsWhole) (a4 : Memref sig .tc .vmem S1024x3072 .bf16) (w4 : a4.IsWhole) (a5 : Memref sig .tc .vmem S31x512 .f32) (w5 : a5.IsWhole) (a6 :
    Memref sig .tc .vmem S1x512 .f32) (w6 : a6.IsWhole) (a7 : Memref sig .tc .vmem S1x512 .f32) (w7 : a7.IsWhole) (a8 : Memref sig .tc .vmem
    S1x512 .f32) (w8 : a8.IsWhole) (a9 : Memref sig .tc .vmem S2x512 .f32) (w9 : a9.IsWhole) (a10 : Memref sig .tc .vmem S1x512 .f32) (w10 :
    a10.IsWhole) (a11 : Memref sig .tc .vmem S1024x1024 .bf16) (w11 : a11.IsWhole) (a12 : Memref sig .tc .vmem S512x512 .bf16) (w12 :
    a12.IsWhole) (a13 : Memref sig .tc .vmem S512x512 .bf16) (w13 : a13.IsWhole) (a14 : Memref sig .tc .vmem S512x128 .bf16) (w14 : a14.IsWhole)
    (a15 : Memref sig .tc .vmem S7x64x64 .f32) (w15 : a15.IsWhole) (a16 : Memref sig .tc .vmem S1x512x1024 .f32) (w16 : a16.IsWhole) (a17 :
    Memref sig .tc .vmem S8x544x512 .f32) (w17 : a17.IsWhole) (a18 : Memref sig .tc .vmem S512x512 .f32) (w18 : a18.IsWhole) (a19 : Memref sig
    .tc .vmem S512x512 .f32) (w19 : a19.IsWhole) (a20 : Memref sig .tc .vmem S512x512 .f32) (w20 : a20.IsWhole) (a21 : Memref sig .tc .vmem
    S512x512 .f32) (w21 : a21.IsWhole) (a22 : Memref sig .tc .vmem S512x512 .f32) (w22 : a22.IsWhole) (a23 : Memref sig .tc .vmem S8x128x512
    .bf16) (w23 : a23.IsWhole) (a24 : Memref sig .tc .vmem S512x512 .f32) (w24 : a24.IsWhole) (a25 : Memref sig .tc .vmem S4x128x128 .f32) (w25 :
    a25.IsWhole)
    (v4 : FVec F S512x1024 .f32) (v96 : FVec F S512x512 .bf16) (v156 : Vec F S512x512 .f32) (v158 : FVec F S512x512 .bf16)
    (x10 : Vec F S1x512 .f32) (x11 : Vec F S1024x1024 .bf16) (x13 : Vec F S512x512 .bf16) (x22 : Vec F S512x512 .f32) (x16 : Vec F S1x512x1024 .f32) :
    Σ' (Y16 : Vec F S1x512x1024 .f32),
      { r : (PUnit) // ∀ (E : Set ℕ) (K : _ → sProp 𝕄),
        iprop(owns (c : Thread nD τ) a10 fullShare x10 ∗
          owns (c : Thread nD τ) a11 fullShare x11 ∗
          owns (c : Thread nD τ) a13 fullShare x13 ∗
          owns (c : Thread nD τ) a22 fullShare x22 ∗
          owns (c : Thread nD τ) a16 fullShare x16
          ∗ (iprop(owns (c : Thread nD τ) a10 fullShare x10 ∗
              owns (c : Thread nD τ) a11 fullShare x11 ∗
              owns (c : Thread nD τ) a13 fullShare x13 ∗
              owns (c : Thread nD τ) a22 fullShare x22 ∗
              owns (c : Thread nD τ) a16 fullShare Y16) -∗ K r))
        ⊢ wp frame (wpE (defs₀ (F := F)) Variants.none c none) E (mixTail i a2 w2 a3 w3 a4 w4 a5 w5 a6 w6 a7 w7 a8 w8 a9 w9 a10 w10 a11 w11 a12 w12 a13 w13 a14 w14 a15 w15 a16 w16 a17 w17 a18 w18 a19 w19 a20 w20 a21 w21
          a22 w22 a23 w23 a24 w24 a25 w25 v4 v96 v156 v158) K } := by
  refine ⟨?_, ?_, fun E K => ?run⟩
  case run =>
    unfold mixTail owns
    iintro ⟨⟨%f10, %hf10, A10⟩, ⟨%f11, %hf11, A11⟩, ⟨%f13, %hf13, A13⟩, ⟨%f22, %hf22, A22⟩, ⟨%f16, %hf16, A16⟩, Hk⟩
    obtain rfl := w10.eq_unread hf10
    obtain rfl := w11.eq_unread hf11
    obtain rfl := w13.eq_unread hf13
    obtain rfl := w22.eq_unread hf22
    obtain rfl := w16.eq_unread hf16
    sl_exec
    sl_step
    iapply Hk
    isplitl [A10]
    · iexists _; isplitr
      · ipureintro; exact w10.read_unread _
      iexact A10
    isplitl [A11]
    · iexists _; isplitr
      · ipureintro; exact w11.read_unread _
      iexact A11
    isplitl [A13]
    · iexists _; isplitr
      · ipureintro; exact w13.read_unread _
      iexact A13
    isplitl [A22]
    · iexists _; isplitr
      · ipureintro; exact w22.read_unread _
      iexact A22
    iexists _; isplitr; swap
    · iexact A16
    ipureintro; rfl

end Cert.KernelIdeal.Mix

end
-- ==== Proof.MixRecIdeal.lean ====
/- The recurrence over the tile, chunk by chunk. -/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.MixShiftIdeal

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The recurrence over the tile, chunk by chunk. -/
def recur
    (c : Dev nD) (i : grid0.Coords) (a2 : Memref sig .tc .vmem S1x512x1024 .f32) (w2 : a2.IsWhole) (a3 : Memref sig .tc .vmem S1x1024 .f32) (w3 :
    a3.IsWhole) (a4 : Memref sig .tc .vmem S1024x3072 .bf16) (w4 : a4.IsWhole) (a5 : Memref sig .tc .vmem S31x512 .f32) (w5 : a5.IsWhole) (a6 :
    Memref sig .tc .vmem S1x512 .f32) (w6 : a6.IsWhole) (a7 : Memref sig .tc .vmem S1x512 .f32) (w7 : a7.IsWhole) (a8 : Memref sig .tc .vmem
    S1x512 .f32) (w8 : a8.IsWhole) (a9 : Memref sig .tc .vmem S2x512 .f32) (w9 : a9.IsWhole) (a10 : Memref sig .tc .vmem S1x512 .f32) (w10 :
    a10.IsWhole) (a11 : Memref sig .tc .vmem S1024x1024 .bf16) (w11 : a11.IsWhole) (a12 : Memref sig .tc .vmem S512x512 .bf16) (w12 :
    a12.IsWhole) (a13 : Memref sig .tc .vmem S512x512 .bf16) (w13 : a13.IsWhole) (a14 : Memref sig .tc .vmem S512x128 .bf16) (w14 : a14.IsWhole)
    (a15 : Memref sig .tc .vmem S7x64x64 .f32) (w15 : a15.IsWhole) (a16 : Memref sig .tc .vmem S1x512x1024 .f32) (w16 : a16.IsWhole) (a17 :
    Memref sig .tc .vmem S8x544x512 .f32) (w17 : a17.IsWhole) (a18 : Memref sig .tc .vmem S512x512 .f32) (w18 : a18.IsWhole) (a19 : Memref sig
    .tc .vmem S512x512 .f32) (w19 : a19.IsWhole) (a20 : Memref sig .tc .vmem S512x512 .f32) (w20 : a20.IsWhole) (a21 : Memref sig .tc .vmem
    S512x512 .f32) (w21 : a21.IsWhole) (a22 : Memref sig .tc .vmem S512x512 .f32) (w22 : a22.IsWhole) (a23 : Memref sig .tc .vmem S8x128x512
    .bf16) (w23 : a23.IsWhole) (a24 : Memref sig .tc .vmem S512x512 .f32) (w24 : a24.IsWhole) (a25 : Memref sig .tc .vmem S4x128x128 .f32) (w25 :
    a25.IsWhole)
    (v19 : FVec F S512x1024 .bf16) (v124 v126 : FVec F S512x512 .f32) (v127 : Vec F S512x512 .f32)
    (x4 : Vec F S1024x3072 .bf16) (x14 : Vec F S512x128 .bf16) (x15 : Vec F S7x64x64 .f32) (x19 : Vec F S512x512 .f32) (x20 : Vec F S512x512 .f32)
      (x21 : Vec F S512x512 .f32) (x22 : Vec F S512x512 .f32) (x23 : Vec F S8x128x512 .bf16) (x24 : Vec F S512x512 .f32) (x25 : Vec F S4x128x128
      .f32) :
    Σ' (Y20 : Vec F S512x512 .f32) (Y21 : Vec F S512x512 .f32) (Y22 : Vec F S512x512 .f32) (Y23 : Vec F S8x128x512 .bf16) (Y24 : Vec F S512x512 .f32) (Y25 : Vec F S4x128x128 .f32),
      { r : (Σ' (v156 : Vec F S512x512 .f32), FVec F S512x512 .bf16) // ∀ (E : Set ℕ) (K : _ → sProp 𝕄),
        iprop(owns (c : Thread nD τ) a4 fullShare x4 ∗
          owns (c : Thread nD τ) a14 fullShare x14 ∗
          owns (c : Thread nD τ) a15 fullShare x15 ∗
          owns (c : Thread nD τ) a19 fullShare x19 ∗
          owns (c : Thread nD τ) a20 fullShare x20 ∗
          owns (c : Thread nD τ) a21 fullShare x21 ∗
          owns (c : Thread nD τ) a22 fullShare x22 ∗
          owns (c : Thread nD τ) a23 fullShare x23 ∗
          owns (c : Thread nD τ) a24 fullShare x24 ∗
          owns (c : Thread nD τ) a25 fullShare x25
          ∗ (iprop(owns (c : Thread nD τ) a4 fullShare x4 ∗
              owns (c : Thread nD τ) a14 fullShare x14 ∗
              owns (c : Thread nD τ) a15 fullShare x15 ∗
              owns (c : Thread nD τ) a19 fullShare x19 ∗
              owns (c : Thread nD τ) a20 fullShare Y20 ∗
              owns (c : Thread nD τ) a21 fullShare Y21 ∗
              owns (c : Thread nD τ) a22 fullShare Y22 ∗
              owns (c : Thread nD τ) a23 fullShare Y23 ∗
              owns (c : Thread nD τ) a24 fullShare Y24 ∗
              owns (c : Thread nD τ) a25 fullShare Y25) -∗ K r))
        ⊢ wp frame (wpE (defs₀ (F := F)) Variants.none c none) E (k0_part20 i a2 w2 a3 w3 a4 w4 a5 w5 a6 w6 a7 w7 a8 w8 a9 w9 a10 w10 a11 w11 a12 w12 a13 w13 a14 w14 a15 w15 a16 w16 a17 w17 a18 w18 a19 w19 a20 w20 a21 w21
          a22 w22 a23 w23 a24 w24 a25 w25 v19 v124 v126 v127) K } := by
  refine ⟨?_, ?_, ?_, ?_, ?_, ?_, ?_, fun E K => ?run⟩
  case run =>
    simp only [k0_part20_eq_skeleton]; unfold k0_part20_skel; unfold owns
    iintro ⟨⟨%f4, %hf4, A4⟩, ⟨%f14, %hf14, A14⟩, ⟨%f15, %hf15, A15⟩, ⟨%f19, %hf19, A19⟩, ⟨%f20, %hf20, A20⟩, ⟨%f21, %hf21, A21⟩, ⟨%f22, %hf22, A22⟩, ⟨%f23, %hf23, A23⟩, ⟨%f24, %hf24, A24⟩, ⟨%f25, %hf25, A25⟩, Hk⟩
    obtain rfl := w4.eq_unread hf4
    obtain rfl := w14.eq_unread hf14
    obtain rfl := w15.eq_unread hf15
    obtain rfl := w19.eq_unread hf19
    obtain rfl := w20.eq_unread hf20
    obtain rfl := w21.eq_unread hf21
    obtain rfl := w22.eq_unread hf22
    obtain rfl := w23.eq_unread hf23
    obtain rfl := w24.eq_unread hf24
    obtain rfl := w25.eq_unread hf25
    sl_exec
    sl_step
    iapply Hk
    isplitl [A4]
    · iexists _; isplitr
      · ipureintro; exact w4.read_unread _
      iexact A4
    isplitl [A14]
    · iexists _; isplitr
      · ipureintro; exact w14.read_unread _
      iexact A14
    isplitl [A15]
    · iexists _; isplitr
      · ipureintro; exact w15.read_unread _
      iexact A15
    isplitl [A19]
    · iexists _; isplitr
      · ipureintro; exact w19.read_unread _
      iexact A19
    isplitl [A20]
    · iexists _; isplitr; swap
      · iexact A20
      ipureintro; rfl
    isplitl [A21]
    · iexists _; isplitr; swap
      · iexact A21
      ipureintro; rfl
    isplitl [A22]
    · iexists _; isplitr; swap
      · iexact A22
      ipureintro; rfl
    isplitl [A23]
    · iexists _; isplitr; swap
      · iexact A23
      ipureintro; rfl
    isplitl [A24]
    · iexists _; isplitr; swap
      · iexact A24
      ipureintro; rfl
    iexists _; isplitr; swap
    · iexact A25
    ipureintro; rfl

end Cert.KernelIdeal.Mix

end
-- ==== Proof.MixProjIdeal.lean ====
/- The projections the recurrence starts from. -/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.MixShiftIdeal

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The projections the recurrence starts from. -/
def proj
    (c : Dev nD) (i : grid0.Coords) (a2 : Memref sig .tc .vmem S1x512x1024 .f32) (w2 : a2.IsWhole) (a3 : Memref sig .tc .vmem S1x1024 .f32) (w3 :
    a3.IsWhole) (a4 : Memref sig .tc .vmem S1024x3072 .bf16) (w4 : a4.IsWhole) (a5 : Memref sig .tc .vmem S31x512 .f32) (w5 : a5.IsWhole) (a6 :
    Memref sig .tc .vmem S1x512 .f32) (w6 : a6.IsWhole) (a7 : Memref sig .tc .vmem S1x512 .f32) (w7 : a7.IsWhole) (a8 : Memref sig .tc .vmem
    S1x512 .f32) (w8 : a8.IsWhole) (a9 : Memref sig .tc .vmem S2x512 .f32) (w9 : a9.IsWhole) (a10 : Memref sig .tc .vmem S1x512 .f32) (w10 :
    a10.IsWhole) (a11 : Memref sig .tc .vmem S1024x1024 .bf16) (w11 : a11.IsWhole) (a12 : Memref sig .tc .vmem S512x512 .bf16) (w12 :
    a12.IsWhole) (a13 : Memref sig .tc .vmem S512x512 .bf16) (w13 : a13.IsWhole) (a14 : Memref sig .tc .vmem S512x128 .bf16) (w14 : a14.IsWhole)
    (a15 : Memref sig .tc .vmem S7x64x64 .f32) (w15 : a15.IsWhole) (a16 : Memref sig .tc .vmem S1x512x1024 .f32) (w16 : a16.IsWhole) (a17 :
    Memref sig .tc .vmem S8x544x512 .f32) (w17 : a17.IsWhole) (a18 : Memref sig .tc .vmem S512x512 .f32) (w18 : a18.IsWhole) (a19 : Memref sig
    .tc .vmem S512x512 .f32) (w19 : a19.IsWhole) (a20 : Memref sig .tc .vmem S512x512 .f32) (w20 : a20.IsWhole) (a21 : Memref sig .tc .vmem
    S512x512 .f32) (w21 : a21.IsWhole) (a22 : Memref sig .tc .vmem S512x512 .f32) (w22 : a22.IsWhole) (a23 : Memref sig .tc .vmem S8x128x512
    .bf16) (w23 : a23.IsWhole) (a24 : Memref sig .tc .vmem S512x512 .f32) (w24 : a24.IsWhole) (a25 : Memref sig .tc .vmem S4x128x128 .f32) (w25 :
    a25.IsWhole)
    (v19 : FVec F S512x1024 .bf16) (v85 : FVec F S512x512 .f32) (v87 : FVec F S1x512 .f32)
    (x4 : Vec F S1024x3072 .bf16) (x8 : Vec F S1x512 .f32) (x9 : Vec F S2x512 .f32) (x20 : Vec F S512x512 .f32) (x19 : Vec F S512x512 .f32) :
    Σ' (Y20 : Vec F S512x512 .f32) (Y19 : Vec F S512x512 .f32),
      { r : (Σ' (v96 : FVec F S512x512 .bf16) (v124 : FVec F S512x512 .f32) (v126 : FVec F S512x512 .f32), Vec F S512x512 .f32) // ∀ (E : Set ℕ) (K : _ → sProp 𝕄),
        iprop(owns (c : Thread nD τ) a4 fullShare x4 ∗
          owns (c : Thread nD τ) a8 fullShare x8 ∗
          owns (c : Thread nD τ) a9 fullShare x9 ∗
          owns (c : Thread nD τ) a20 fullShare x20 ∗
          owns (c : Thread nD τ) a19 fullShare x19
          ∗ (iprop(owns (c : Thread nD τ) a4 fullShare x4 ∗
              owns (c : Thread nD τ) a8 fullShare x8 ∗
              owns (c : Thread nD τ) a9 fullShare x9 ∗
              owns (c : Thread nD τ) a20 fullShare Y20 ∗
              owns (c : Thread nD τ) a19 fullShare Y19) -∗ K r))
        ⊢ wp frame (wpE (defs₀ (F := F)) Variants.none c none) E (k0_part19 i a2 w2 a3 w3 a4 w4 a5 w5 a6 w6 a7 w7 a8 w8 a9 w9 a10 w10 a11 w11 a12 w12 a13 w13 a14 w14 a15 w15 a16 w16 a17 w17 a18 w18 a19 w19 a20 w20 a21 w21
          a22 w22 a23 w23 a24 w24 a25 w25 v19 v85 v87) K } := by
  refine ⟨?_, ?_, ?_, fun E K => ?run⟩
  case run =>
    simp only [k0_part19_eq_skeleton]; unfold k0_part19_skel; unfold owns
    iintro ⟨⟨%f4, %hf4, A4⟩, ⟨%f8, %hf8, A8⟩, ⟨%f9, %hf9, A9⟩, ⟨%f20, %hf20, A20⟩, ⟨%f19, %hf19, A19⟩, Hk⟩
    obtain rfl := w4.eq_unread hf4
    obtain rfl := w8.eq_unread hf8
    obtain rfl := w9.eq_unread hf9
    obtain rfl := w20.eq_unread hf20
    obtain rfl := w19.eq_unread hf19
    sl_exec
    sl_step
    iapply Hk
    isplitl [A4]
    · iexists _; isplitr
      · ipureintro; exact w4.read_unread _
      iexact A4
    isplitl [A8]
    · iexists _; isplitr
      · ipureintro; exact w8.read_unread _
      iexact A8
    isplitl [A9]
    · iexists _; isplitr
      · ipureintro; exact w9.read_unread _
      iexact A9
    isplitl [A20]
    · iexists _; isplitr; swap
      · iexact A20
      ipureintro; rfl
    iexists _; isplitr; swap
    · iexact A19
    ipureintro; rfl

end Cert.KernelIdeal.Mix

end
-- ==== Proof.MixConvIdeal.lean ====
/- The last shifted copies, the convolution, and its group normalization. -/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.MixShiftIdeal

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The last shifted copies, the convolution, and its group normalization. -/
def conv
    (c : Dev nD) (i : grid0.Coords) (a2 : Memref sig .tc .vmem S1x512x1024 .f32) (w2 : a2.IsWhole) (a3 : Memref sig .tc .vmem S1x1024 .f32) (w3 :
    a3.IsWhole) (a4 : Memref sig .tc .vmem S1024x3072 .bf16) (w4 : a4.IsWhole) (a5 : Memref sig .tc .vmem S31x512 .f32) (w5 : a5.IsWhole) (a6 :
    Memref sig .tc .vmem S1x512 .f32) (w6 : a6.IsWhole) (a7 : Memref sig .tc .vmem S1x512 .f32) (w7 : a7.IsWhole) (a8 : Memref sig .tc .vmem
    S1x512 .f32) (w8 : a8.IsWhole) (a9 : Memref sig .tc .vmem S2x512 .f32) (w9 : a9.IsWhole) (a10 : Memref sig .tc .vmem S1x512 .f32) (w10 :
    a10.IsWhole) (a11 : Memref sig .tc .vmem S1024x1024 .bf16) (w11 : a11.IsWhole) (a12 : Memref sig .tc .vmem S512x512 .bf16) (w12 :
    a12.IsWhole) (a13 : Memref sig .tc .vmem S512x512 .bf16) (w13 : a13.IsWhole) (a14 : Memref sig .tc .vmem S512x128 .bf16) (w14 : a14.IsWhole)
    (a15 : Memref sig .tc .vmem S7x64x64 .f32) (w15 : a15.IsWhole) (a16 : Memref sig .tc .vmem S1x512x1024 .f32) (w16 : a16.IsWhole) (a17 :
    Memref sig .tc .vmem S8x544x512 .f32) (w17 : a17.IsWhole) (a18 : Memref sig .tc .vmem S512x512 .f32) (w18 : a18.IsWhole) (a19 : Memref sig
    .tc .vmem S512x512 .f32) (w19 : a19.IsWhole) (a20 : Memref sig .tc .vmem S512x512 .f32) (w20 : a20.IsWhole) (a21 : Memref sig .tc .vmem
    S512x512 .f32) (w21 : a21.IsWhole) (a22 : Memref sig .tc .vmem S512x512 .f32) (w22 : a22.IsWhole) (a23 : Memref sig .tc .vmem S8x128x512
    .bf16) (w23 : a23.IsWhole) (a24 : Memref sig .tc .vmem S512x512 .f32) (w24 : a24.IsWhole) (a25 : Memref sig .tc .vmem S4x128x128 .f32) (w25 :
    a25.IsWhole)
    (v56 : FVec F S536x512 .f32)
    (x5 : Vec F S31x512 .f32) (x6 : Vec F S1x512 .f32) (x7 : Vec F S1x512 .f32) (x12 : Vec F S512x512 .bf16) (x17 : Vec F S8x544x512 .f32) (x18 : Vec
      F S512x512 .f32) :
    Σ' (Y17 : Vec F S8x544x512 .f32) (Y18 : Vec F S512x512 .f32),
      { r : (Σ' (v85 : FVec F S512x512 .f32), FVec F S1x512 .f32) // ∀ (E : Set ℕ) (K : _ → sProp 𝕄),
        iprop(owns (c : Thread nD τ) a5 fullShare x5 ∗
          owns (c : Thread nD τ) a6 fullShare x6 ∗
          owns (c : Thread nD τ) a7 fullShare x7 ∗
          owns (c : Thread nD τ) a12 fullShare x12 ∗
          owns (c : Thread nD τ) a17 fullShare x17 ∗
          owns (c : Thread nD τ) a18 fullShare x18
          ∗ (iprop(owns (c : Thread nD τ) a5 fullShare x5 ∗
              owns (c : Thread nD τ) a6 fullShare x6 ∗
              owns (c : Thread nD τ) a7 fullShare x7 ∗
              owns (c : Thread nD τ) a12 fullShare x12 ∗
              owns (c : Thread nD τ) a17 fullShare Y17 ∗
              owns (c : Thread nD τ) a18 fullShare Y18) -∗ K r))
        ⊢ wp frame (wpE (defs₀ (F := F)) Variants.none c none) E (k0_part18 i a2 w2 a3 w3 a4 w4 a5 w5 a6 w6 a7 w7 a8 w8 a9 w9 a10 w10 a11 w11 a12 w12 a13 w13 a14 w14 a15 w15 a16 w16 a17 w17 a18 w18 a19 w19 a20 w20 a21 w21
          a22 w22 a23 w23 a24 w24 a25 w25 v56) K } := by
  refine ⟨?_, ?_, ?_, fun E K => ?run⟩
  case run =>
    simp only [k0_part18_eq_skeleton]; unfold k0_part18_skel; unfold owns
    iintro ⟨⟨%f5, %hf5, A5⟩, ⟨%f6, %hf6, A6⟩, ⟨%f7, %hf7, A7⟩, ⟨%f12, %hf12, A12⟩, ⟨%f17, %hf17, A17⟩, ⟨%f18, %hf18, A18⟩, Hk⟩
    obtain rfl := w5.eq_unread hf5
    obtain rfl := w6.eq_unread hf6
    obtain rfl := w7.eq_unread hf7
    obtain rfl := w12.eq_unread hf12
    obtain rfl := w17.eq_unread hf17
    obtain rfl := w18.eq_unread hf18
    sl_exec
    sl_step
    iapply Hk
    isplitl [A5]
    · iexists _; isplitr
      · ipureintro; exact w5.read_unread _
      iexact A5
    isplitl [A6]
    · iexists _; isplitr
      · ipureintro; exact w6.read_unread _
      iexact A6
    isplitl [A7]
    · iexists _; isplitr
      · ipureintro; exact w7.read_unread _
      iexact A7
    isplitl [A12]
    · iexists _; isplitr
      · ipureintro; exact w12.read_unread _
      iexact A12
    isplitl [A17]
    · iexists _; isplitr; swap
      · iexact A17
      ipureintro; rfl
    iexists _; isplitr; swap
    · iexact A18
    ipureintro; rfl

end Cert.KernelIdeal.Mix

end
-- ==== Proof.MixBodyIdeal.lean ====
/- The body of the token mixer, run from its parts. -/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.MixTailIdeal
public import proofs.«01_k».proof.Proof.MixRecIdeal
public import proofs.«01_k».proof.Proof.MixProjIdeal
public import proofs.«01_k».proof.Proof.MixConvIdeal

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 65536 in
/-- The body is its six steps, one after the other. -/
theorem cc0_mixer_eq_steps (i : grid0.Coords) (a2 : Memref sig .tc .vmem S1x512x1024 .f32) (w2 : a2.IsWhole) (a3 : Memref sig .tc .vmem S1x1024 .f32) (w3 : a3.IsWhole) (a4 : Memref sig .tc
    .vmem S1024x3072 .bf16) (w4 : a4.IsWhole) (a5 : Memref sig .tc .vmem S31x512 .f32) (w5 : a5.IsWhole) (a6 : Memref sig .tc .vmem S1x512 .f32)
    (w6 : a6.IsWhole) (a7 : Memref sig .tc .vmem S1x512 .f32) (w7 : a7.IsWhole) (a8 : Memref sig .tc .vmem S1x512 .f32) (w8 : a8.IsWhole) (a9 :
    Memref sig .tc .vmem S2x512 .f32) (w9 : a9.IsWhole) (a10 : Memref sig .tc .vmem S1x512 .f32) (w10 : a10.IsWhole) (a11 : Memref sig .tc .vmem
    S1024x1024 .bf16) (w11 : a11.IsWhole) (a12 : Memref sig .tc .vmem S512x512 .bf16) (w12 : a12.IsWhole) (a13 : Memref sig .tc .vmem S512x512
    .bf16) (w13 : a13.IsWhole) (a14 : Memref sig .tc .vmem S512x128 .bf16) (w14 : a14.IsWhole) (a15 : Memref sig .tc .vmem S7x64x64 .f32) (w15 :
    a15.IsWhole) (a16 : Memref sig .tc .vmem S1x512x1024 .f32) (w16 : a16.IsWhole) (a17 : Memref sig .tc .vmem S8x544x512 .f32) (w17 :
    a17.IsWhole) (a18 : Memref sig .tc .vmem S512x512 .f32) (w18 : a18.IsWhole) (a19 : Memref sig .tc .vmem S512x512 .f32) (w19 : a19.IsWhole)
    (a20 : Memref sig .tc .vmem S512x512 .f32) (w20 : a20.IsWhole) (a21 : Memref sig .tc .vmem S512x512 .f32) (w21 : a21.IsWhole) (a22 : Memref
    sig .tc .vmem S512x512 .f32) (w22 : a22.IsWhole) (a23 : Memref sig .tc .vmem S8x128x512 .bf16) (w23 : a23.IsWhole) (a24 : Memref sig .tc
    .vmem S512x512 .f32) (w24 : a24.IsWhole) (a25 : Memref sig .tc .vmem S4x128x128 .f32) (w25 : a25.IsWhole) :
    cc0_mixer (F := F) i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25
      = (do
        let r ← k0_part16 i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25
        let v ← k0_part17 i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 r.2.2
        let n ← k0_part18 i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 v
        let p ← k0_part19 i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 r.2.1 n.1 n.2
        let o ← k0_part20 i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 r.2.1 p.2.1 p.2.2.1 p.2.2.2
        mixTail i a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 r.1 p.1 o.1 o.2) := rfl

set_option maxHeartbeats 4000000 in
/-- The whole body run at the first tile of a batch entry: what it leaves in the output block and in every scratch buffer. -/
def bodyFirst
    (c : Dev nD) (i : grid0.Coords) (a2 : Memref sig .tc .vmem S1x512x1024 .f32) (w2 : a2.IsWhole) (a3 : Memref sig .tc .vmem S1x1024 .f32) (w3 :
    a3.IsWhole) (a4 : Memref sig .tc .vmem S1024x3072 .bf16) (w4 : a4.IsWhole) (a5 : Memref sig .tc .vmem S31x512 .f32) (w5 : a5.IsWhole) (a6 :
    Memref sig .tc .vmem S1x512 .f32) (w6 : a6.IsWhole) (a7 : Memref sig .tc .vmem S1x512 .f32) (w7 : a7.IsWhole) (a8 : Memref sig .tc .vmem
    S1x512 .f32) (w8 : a8.IsWhole) (a9 : Memref sig .tc .vmem S2x512 .f32) (w9 : a9.IsWhole) (a10 : Memref sig .tc .vmem S1x512 .f32) (w10 :
    a10.IsWhole) (a11 : Memref sig .tc .vmem S1024x1024 .bf16) (w11 : a11.IsWhole) (a12 : Memref sig .tc .vmem S512x512 .bf16) (w12 :
    a12.IsWhole) (a13 : Memref sig .tc .vmem S512x512 .bf16) (w13 : a13.IsWhole) (a14 : Memref sig .tc .vmem S512x128 .bf16) (w14 : a14.IsWhole)
    (a15 : Memref sig .tc .vmem S7x64x64 .f32) (w15 : a15.IsWhole) (a16 : Memref sig .tc .vmem S1x512x1024 .f32) (w16 : a16.IsWhole) (a17 :
    Memref sig .tc .vmem S8x544x512 .f32) (w17 : a17.IsWhole) (a18 : Memref sig .tc .vmem S512x512 .f32) (w18 : a18.IsWhole) (a19 : Memref sig
    .tc .vmem S512x512 .f32) (w19 : a19.IsWhole) (a20 : Memref sig .tc .vmem S512x512 .f32) (w20 : a20.IsWhole) (a21 : Memref sig .tc .vmem
    S512x512 .f32) (w21 : a21.IsWhole) (a22 : Memref sig .tc .vmem S512x512 .f32) (w22 : a22.IsWhole) (a23 : Memref sig .tc .vmem S8x128x512
    .bf16) (w23 : a23.IsWhole) (a24 : Memref sig .tc .vmem S512x512 .f32) (w24 : a24.IsWhole) (a25 : Memref sig .tc .vmem S4x128x128 .f32) (w25 :
    a25.IsWhole)
    (hc : fresh i)
    (x2 : Vec F S1x512x1024 .f32) (x3 : Vec F S1x1024 .f32) (x4 : Vec F S1024x3072 .bf16) (x5 : Vec F S31x512 .f32) (x6 : Vec F S1x512 .f32) (x7 :
      Vec F S1x512 .f32) (x8 : Vec F S1x512 .f32) (x9 : Vec F S2x512 .f32) (x10 : Vec F S1x512 .f32) (x11 : Vec F S1024x1024 .bf16) (x12 : Vec F
      S512x512 .bf16) (x13 : Vec F S512x512 .bf16) (x14 : Vec F S512x128 .bf16) (x15 : Vec F S7x64x64 .f32) (x16 : Vec F S1x512x1024 .f32) (x17 :
      Vec F S8x544x512 .f32) (x18 : Vec F S512x512 .f32) (x19 : Vec F S512x512 .f32) (x20 : Vec F S512x512 .f32) (x21 : Vec F S512x512 .f32) (x22
      : Vec F S512x512 .f32) (x23 : Vec F S8x128x512 .bf16) (x24 : Vec F S512x512 .f32) (x25 : Vec F S4x128x128 .f32) :
    Σ' (Y16 : Vec F S1x512x1024 .f32) (Y17 : Vec F S8x544x512 .f32) (Y18 : Vec F S512x512 .f32) (Y19 : Vec F S512x512 .f32) (Y20 : Vec F S512x512 .f32)
      (Y21 : Vec F S512x512 .f32) (Y22 : Vec F S512x512 .f32) (Y23 : Vec F S8x128x512 .bf16) (Y24 : Vec F S512x512 .f32),
      { Y25 : Vec F S4x128x128 .f32 // ∀ (E : Set ℕ) (K : PUnit → sProp 𝕄),
        iprop(owns (c : Thread nD τ) a2 fullShare x2 ∗
          owns (c : Thread nD τ) a3 fullShare x3 ∗
          owns (c : Thread nD τ) a4 fullShare x4 ∗
          owns (c : Thread nD τ) a5 fullShare x5 ∗
          owns (c : Thread nD τ) a6 fullShare x6 ∗
          owns (c : Thread nD τ) a7 fullShare x7 ∗
          owns (c : Thread nD τ) a8 fullShare x8 ∗
          owns (c : Thread nD τ) a9 fullShare x9 ∗
          owns (c : Thread nD τ) a10 fullShare x10 ∗
          owns (c : Thread nD τ) a11 fullShare x11 ∗
          owns (c : Thread nD τ) a12 fullShare x12 ∗
          owns (c : Thread nD τ) a13 fullShare x13 ∗
          owns (c : Thread nD τ) a14 fullShare x14 ∗
          owns (c : Thread nD τ) a15 fullShare x15 ∗
          owns (c : Thread nD τ) a16 fullShare x16 ∗
          owns (c : Thread nD τ) a17 fullShare x17 ∗
          owns (c : Thread nD τ) a18 fullShare x18 ∗
          owns (c : Thread nD τ) a19 fullShare x19 ∗
          owns (c : Thread nD τ) a20 fullShare x20 ∗
          owns (c : Thread nD τ) a21 fullShare x21 ∗
          owns (c : Thread nD τ) a22 fullShare x22 ∗
          owns (c : Thread nD τ) a23 fullShare x23 ∗
          owns (c : Thread nD τ) a24 fullShare x24 ∗
          owns (c : Thread nD τ) a25 fullShare x25
          ∗ (iprop(owns (c : Thread nD τ) a2 fullShare x2 ∗
              owns (c : Thread nD τ) a3 fullShare x3 ∗
              owns (c : Thread nD τ) a4 fullShare x4 ∗
              owns (c : Thread nD τ) a5 fullShare x5 ∗
              owns (c : Thread nD τ) a6 fullShare x6 ∗
              owns (c : Thread nD τ) a7 fullShare x7 ∗
              owns (c : Thread nD τ) a8 fullShare x8 ∗
              owns (c : Thread nD τ) a9 fullShare x9 ∗
              owns (c : Thread nD τ) a10 fullShare x10 ∗
              owns (c : Thread nD τ) a11 fullShare x11 ∗
              owns (c : Thread nD τ) a12 fullShare x12 ∗
              owns (c : Thread nD τ) a13 fullShare x13 ∗
              owns (c : Thread nD τ) a14 fullShare x14 ∗
              owns (c : Thread nD τ) a15 fullShare x15 ∗
              owns (c : Thread nD τ) a16 fullShare Y16 ∗
              owns (c : Thread nD τ) a17 fullShare Y17 ∗
              owns (c : Thread nD τ) a18 fullShare Y18 ∗
              owns (c : Thread nD τ) a19 fullShare Y19 ∗
              owns (c : Thread nD τ) a20 fullShare Y20 ∗
              owns (c : Thread nD τ) a21 fullShare Y21 ∗
              owns (c : Thread nD τ) a22 fullShare Y22 ∗
              owns (c : Thread nD τ) a23 fullShare Y23 ∗
              owns (c : Thread nD τ) a24 fullShare Y24 ∗
              owns (c : Thread nD τ) a25 fullShare Y25) -∗ K ⟨⟩))
        ⊢ wp frame (wpE (defs₀ (F := F)) Variants.none c none) E (cc0_mixer i a2 w2 a3 w3 a4 w4 a5 w5 a6 w6 a7 w7 a8 w8 a9 w9 a10 w10 a11 w11 a12 w12 a13 w13 a14 w14 a15 w15 a16 w16 a17 w17 a18 w18 a19 w19 a20 w20 a21 w21
          a22 w22 a23 w23 a24 w24 a25 w25) K } := by
  refine ⟨?_, ?_, ?_, ?_, ?_, ?_, ?_, ?_, ?_, ?_, fun E K => ?run⟩
  case run =>
    rw [cc0_mixer_eq_steps]
    simp only [wp_bind]
    iintro ⟨A2, A3, A4, A5, A6, A7, A8, A9, A10, A11, A12, A13, A14, A15, A16, A17, A18, A19, A20, A21, A22, A23, A24, A25, Hk⟩
    iapply (((headFirst (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 hc _ _ _ _ _).2.2.2) E _)
    isplitl [A2]; · iexact A2
    isplitl [A3]; · iexact A3
    isplitl [A4]; · iexact A4
    isplitl [A17]; · iexact A17
    isplitl [A25]; · iexact A25
    iintro ⟨A2, A3, A4, A17, A25⟩
    iapply (((shifts (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 _ _).2.2) E _)
    isplitl [A17]; · iexact A17
    iintro ⟨A17⟩
    iapply (((conv (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 _ _ _ _ _ _ _).2.2.2) E _)
    isplitl [A5]; · iexact A5
    isplitl [A6]; · iexact A6
    isplitl [A7]; · iexact A7
    isplitl [A12]; · iexact A12
    isplitl [A17]; · iexact A17
    isplitl [A18]; · iexact A18
    iintro ⟨A5, A6, A7, A12, A17, A18⟩
    iapply (((proj (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 _ _ _ _ _ _ _ _).2.2.2) E _)
    isplitl [A4]; · iexact A4
    isplitl [A8]; · iexact A8
    isplitl [A9]; · iexact A9
    isplitl [A20]; · iexact A20
    isplitl [A19]; · iexact A19
    iintro ⟨A4, A8, A9, A20, A19⟩
    iapply (((recur (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 _ _ _ _ _ _ _ _ _ _ _ _ _ _).2.2.2.2.2.2.2) E _)
    isplitl [A4]; · iexact A4
    isplitl [A14]; · iexact A14
    isplitl [A15]; · iexact A15
    isplitl [A19]; · iexact A19
    isplitl [A20]; · iexact A20
    isplitl [A21]; · iexact A21
    isplitl [A22]; · iexact A22
    isplitl [A23]; · iexact A23
    isplitl [A24]; · iexact A24
    isplitl [A25]; · iexact A25
    iintro ⟨A4, A14, A15, A19, A20, A21, A22, A23, A24, A25⟩
    iapply (((tail (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 _ _ _ _ _ _ _ _ _).2.2) E _)
    isplitl [A10]; · iexact A10
    isplitl [A11]; · iexact A11
    isplitl [A13]; · iexact A13
    isplitl [A22]; · iexact A22
    isplitl [A16]; · iexact A16
    iintro ⟨A10, A11, A13, A22, A16⟩
    iapply Hk
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    isplitl [A23]; · iexact A23
    isplitl [A24]; · iexact A24
    iexact A25

set_option maxHeartbeats 4000000 in
/-- The whole body run at a later tile of a batch entry: what it leaves in the output block and in every scratch buffer. -/
def bodyLater
    (c : Dev nD) (i : grid0.Coords) (a2 : Memref sig .tc .vmem S1x512x1024 .f32) (w2 : a2.IsWhole) (a3 : Memref sig .tc .vmem S1x1024 .f32) (w3 :
    a3.IsWhole) (a4 : Memref sig .tc .vmem S1024x3072 .bf16) (w4 : a4.IsWhole) (a5 : Memref sig .tc .vmem S31x512 .f32) (w5 : a5.IsWhole) (a6 :
    Memref sig .tc .vmem S1x512 .f32) (w6 : a6.IsWhole) (a7 : Memref sig .tc .vmem S1x512 .f32) (w7 : a7.IsWhole) (a8 : Memref sig .tc .vmem
    S1x512 .f32) (w8 : a8.IsWhole) (a9 : Memref sig .tc .vmem S2x512 .f32) (w9 : a9.IsWhole) (a10 : Memref sig .tc .vmem S1x512 .f32) (w10 :
    a10.IsWhole) (a11 : Memref sig .tc .vmem S1024x1024 .bf16) (w11 : a11.IsWhole) (a12 : Memref sig .tc .vmem S512x512 .bf16) (w12 :
    a12.IsWhole) (a13 : Memref sig .tc .vmem S512x512 .bf16) (w13 : a13.IsWhole) (a14 : Memref sig .tc .vmem S512x128 .bf16) (w14 : a14.IsWhole)
    (a15 : Memref sig .tc .vmem S7x64x64 .f32) (w15 : a15.IsWhole) (a16 : Memref sig .tc .vmem S1x512x1024 .f32) (w16 : a16.IsWhole) (a17 :
    Memref sig .tc .vmem S8x544x512 .f32) (w17 : a17.IsWhole) (a18 : Memref sig .tc .vmem S512x512 .f32) (w18 : a18.IsWhole) (a19 : Memref sig
    .tc .vmem S512x512 .f32) (w19 : a19.IsWhole) (a20 : Memref sig .tc .vmem S512x512 .f32) (w20 : a20.IsWhole) (a21 : Memref sig .tc .vmem
    S512x512 .f32) (w21 : a21.IsWhole) (a22 : Memref sig .tc .vmem S512x512 .f32) (w22 : a22.IsWhole) (a23 : Memref sig .tc .vmem S8x128x512
    .bf16) (w23 : a23.IsWhole) (a24 : Memref sig .tc .vmem S512x512 .f32) (w24 : a24.IsWhole) (a25 : Memref sig .tc .vmem S4x128x128 .f32) (w25 :
    a25.IsWhole)
    (hc : ¬ fresh i)
    (x2 : Vec F S1x512x1024 .f32) (x3 : Vec F S1x1024 .f32) (x4 : Vec F S1024x3072 .bf16) (x5 : Vec F S31x512 .f32) (x6 : Vec F S1x512 .f32) (x7 :
      Vec F S1x512 .f32) (x8 : Vec F S1x512 .f32) (x9 : Vec F S2x512 .f32) (x10 : Vec F S1x512 .f32) (x11 : Vec F S1024x1024 .bf16) (x12 : Vec F
      S512x512 .bf16) (x13 : Vec F S512x512 .bf16) (x14 : Vec F S512x128 .bf16) (x15 : Vec F S7x64x64 .f32) (x16 : Vec F S1x512x1024 .f32) (x17 :
      Vec F S8x544x512 .f32) (x18 : Vec F S512x512 .f32) (x19 : Vec F S512x512 .f32) (x20 : Vec F S512x512 .f32) (x21 : Vec F S512x512 .f32) (x22
      : Vec F S512x512 .f32) (x23 : Vec F S8x128x512 .bf16) (x24 : Vec F S512x512 .f32) (x25 : Vec F S4x128x128 .f32) :
    Σ' (Y16 : Vec F S1x512x1024 .f32) (Y17 : Vec F S8x544x512 .f32) (Y18 : Vec F S512x512 .f32) (Y19 : Vec F S512x512 .f32) (Y20 : Vec F S512x512 .f32)
      (Y21 : Vec F S512x512 .f32) (Y22 : Vec F S512x512 .f32) (Y23 : Vec F S8x128x512 .bf16) (Y24 : Vec F S512x512 .f32),
      { Y25 : Vec F S4x128x128 .f32 // ∀ (E : Set ℕ) (K : PUnit → sProp 𝕄),
        iprop(owns (c : Thread nD τ) a2 fullShare x2 ∗
          owns (c : Thread nD τ) a3 fullShare x3 ∗
          owns (c : Thread nD τ) a4 fullShare x4 ∗
          owns (c : Thread nD τ) a5 fullShare x5 ∗
          owns (c : Thread nD τ) a6 fullShare x6 ∗
          owns (c : Thread nD τ) a7 fullShare x7 ∗
          owns (c : Thread nD τ) a8 fullShare x8 ∗
          owns (c : Thread nD τ) a9 fullShare x9 ∗
          owns (c : Thread nD τ) a10 fullShare x10 ∗
          owns (c : Thread nD τ) a11 fullShare x11 ∗
          owns (c : Thread nD τ) a12 fullShare x12 ∗
          owns (c : Thread nD τ) a13 fullShare x13 ∗
          owns (c : Thread nD τ) a14 fullShare x14 ∗
          owns (c : Thread nD τ) a15 fullShare x15 ∗
          owns (c : Thread nD τ) a16 fullShare x16 ∗
          owns (c : Thread nD τ) a17 fullShare x17 ∗
          owns (c : Thread nD τ) a18 fullShare x18 ∗
          owns (c : Thread nD τ) a19 fullShare x19 ∗
          owns (c : Thread nD τ) a20 fullShare x20 ∗
          owns (c : Thread nD τ) a21 fullShare x21 ∗
          owns (c : Thread nD τ) a22 fullShare x22 ∗
          owns (c : Thread nD τ) a23 fullShare x23 ∗
          owns (c : Thread nD τ) a24 fullShare x24 ∗
          owns (c : Thread nD τ) a25 fullShare x25
          ∗ (iprop(owns (c : Thread nD τ) a2 fullShare x2 ∗
              owns (c : Thread nD τ) a3 fullShare x3 ∗
              owns (c : Thread nD τ) a4 fullShare x4 ∗
              owns (c : Thread nD τ) a5 fullShare x5 ∗
              owns (c : Thread nD τ) a6 fullShare x6 ∗
              owns (c : Thread nD τ) a7 fullShare x7 ∗
              owns (c : Thread nD τ) a8 fullShare x8 ∗
              owns (c : Thread nD τ) a9 fullShare x9 ∗
              owns (c : Thread nD τ) a10 fullShare x10 ∗
              owns (c : Thread nD τ) a11 fullShare x11 ∗
              owns (c : Thread nD τ) a12 fullShare x12 ∗
              owns (c : Thread nD τ) a13 fullShare x13 ∗
              owns (c : Thread nD τ) a14 fullShare x14 ∗
              owns (c : Thread nD τ) a15 fullShare x15 ∗
              owns (c : Thread nD τ) a16 fullShare Y16 ∗
              owns (c : Thread nD τ) a17 fullShare Y17 ∗
              owns (c : Thread nD τ) a18 fullShare Y18 ∗
              owns (c : Thread nD τ) a19 fullShare Y19 ∗
              owns (c : Thread nD τ) a20 fullShare Y20 ∗
              owns (c : Thread nD τ) a21 fullShare Y21 ∗
              owns (c : Thread nD τ) a22 fullShare Y22 ∗
              owns (c : Thread nD τ) a23 fullShare Y23 ∗
              owns (c : Thread nD τ) a24 fullShare Y24 ∗
              owns (c : Thread nD τ) a25 fullShare Y25) -∗ K ⟨⟩))
        ⊢ wp frame (wpE (defs₀ (F := F)) Variants.none c none) E (cc0_mixer i a2 w2 a3 w3 a4 w4 a5 w5 a6 w6 a7 w7 a8 w8 a9 w9 a10 w10 a11 w11 a12 w12 a13 w13 a14 w14 a15 w15 a16 w16 a17 w17 a18 w18 a19 w19 a20 w20 a21 w21
          a22 w22 a23 w23 a24 w24 a25 w25) K } := by
  refine ⟨?_, ?_, ?_, ?_, ?_, ?_, ?_, ?_, ?_, ?_, fun E K => ?run⟩
  case run =>
    rw [cc0_mixer_eq_steps]
    simp only [wp_bind]
    iintro ⟨A2, A3, A4, A5, A6, A7, A8, A9, A10, A11, A12, A13, A14, A15, A16, A17, A18, A19, A20, A21, A22, A23, A24, A25, Hk⟩
    iapply (((headLater (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 hc _ _ _ _ _).2.2.2) E _)
    isplitl [A2]; · iexact A2
    isplitl [A3]; · iexact A3
    isplitl [A4]; · iexact A4
    isplitl [A17]; · iexact A17
    isplitl [A25]; · iexact A25
    iintro ⟨A2, A3, A4, A17, A25⟩
    iapply (((shifts (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 _ _).2.2) E _)
    isplitl [A17]; · iexact A17
    iintro ⟨A17⟩
    iapply (((conv (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 _ _ _ _ _ _ _).2.2.2) E _)
    isplitl [A5]; · iexact A5
    isplitl [A6]; · iexact A6
    isplitl [A7]; · iexact A7
    isplitl [A12]; · iexact A12
    isplitl [A17]; · iexact A17
    isplitl [A18]; · iexact A18
    iintro ⟨A5, A6, A7, A12, A17, A18⟩
    iapply (((proj (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 _ _ _ _ _ _ _ _).2.2.2) E _)
    isplitl [A4]; · iexact A4
    isplitl [A8]; · iexact A8
    isplitl [A9]; · iexact A9
    isplitl [A20]; · iexact A20
    isplitl [A19]; · iexact A19
    iintro ⟨A4, A8, A9, A20, A19⟩
    iapply (((recur (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 _ _ _ _ _ _ _ _ _ _ _ _ _ _).2.2.2.2.2.2.2) E _)
    isplitl [A4]; · iexact A4
    isplitl [A14]; · iexact A14
    isplitl [A15]; · iexact A15
    isplitl [A19]; · iexact A19
    isplitl [A20]; · iexact A20
    isplitl [A21]; · iexact A21
    isplitl [A22]; · iexact A22
    isplitl [A23]; · iexact A23
    isplitl [A24]; · iexact A24
    isplitl [A25]; · iexact A25
    iintro ⟨A4, A14, A15, A19, A20, A21, A22, A23, A24, A25⟩
    iapply (((tail (F := F) c i a2 w2 a3 w3 a4 w4 a5 w5 a6 w6 a7 w7 a8 w8 a9 w9 a10 w10 a11 w11 a12 w12 a13 w13 a14 w14 a15 w15 a16 w16 a17 w17 a18 w18 a19 w19 a20 w20 a21
      w21 a22 w22 a23 w23 a24 w24 a25 w25 _ _ _ _ _ _ _ _ _).2.2) E _)
    isplitl [A10]; · iexact A10
    isplitl [A11]; · iexact A11
    isplitl [A13]; · iexact A13
    isplitl [A22]; · iexact A22
    isplitl [A16]; · iexact A16
    iintro ⟨A10, A11, A13, A22, A16⟩
    iapply Hk
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    isplitl [A23]; · iexact A23
    isplitl [A24]; · iexact A24
    iexact A25

end Cert.KernelIdeal.Mix

end
-- ==== Proof.MixLaunchIdeal.lean ====
/- The launch of the token mixer: every grid point run, what is carried from point to point stated through a property of the two carried buffers. -/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.Gen.KernelIdeal.Frame
public import proofs.«01_k».proof.Proof.MixBodyIdeal

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried buffers are cleared at the points divisible by eight. -/
theorem fresh_iff : ∀ t : Fin cfg0.N, fresh (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [fresh, e0, e1]
    word_cmp
   : ∀ t : Fin grid0.N, fresh (grid0.coords t) ↔ t.val % 8 = 0)

/-- Window 0 at a point, and that it is whole. -/
abbrev st0 (t : Fin cfg0.N) : Memref sig .tc .vmem S1x512x1024 .f32 := win0_0.stage (cfg0.slots t 0)
/-- The staging buffer of this window is a whole buffer. -/
theorem hst0 (t : Fin cfg0.N) : (st0 t).IsWhole := hstage0_0 ((cfg0.slots t 0).cast nbuf0_0)
/-- Window 1 at a point, and that it is whole. -/
abbrev st1 (t : Fin cfg0.N) : Memref sig .tc .vmem S1x1024 .f32 := win0_1.stage (cfg0.slots t 1)
/-- The staging buffer of this window is a whole buffer. -/
theorem hst1 (t : Fin cfg0.N) : (st1 t).IsWhole := hstage0_1 ((cfg0.slots t 1).cast nbuf0_1)
/-- Window 2 at a point, and that it is whole. -/
abbrev st2 (t : Fin cfg0.N) : Memref sig .tc .vmem S1024x3072 .bf16 := win0_2.stage (cfg0.slots t 2)
/-- The staging buffer of this window is a whole buffer. -/
theorem hst2 (t : Fin cfg0.N) : (st2 t).IsWhole := hstage0_2 ((cfg0.slots t 2).cast nbuf0_2)
/-- Window 3 at a point, and that it is whole. -/
abbrev st3 (t : Fin cfg0.N) : Memref sig .tc .vmem S31x512 .f32 := win0_3.stage (cfg0.slots t 3)
/-- The staging buffer of this window is a whole buffer. -/
theorem hst3 (t : Fin cfg0.N) : (st3 t).IsWhole := hstage0_3 ((cfg0.slots t 3).cast nbuf0_3)
/-- Window 4 at a point, and that it is whole. -/
abbrev st4 (t : Fin cfg0.N) : Memref sig .tc .vmem S1x512 .f32 := win0_4.stage (cfg0.slots t 4)
/-- The staging buffer of this window is a whole buffer. -/
theorem hst4 (t : Fin cfg0.N) : (st4 t).IsWhole := hstage0_4 ((cfg0.slots t 4).cast nbuf0_4)
/-- Window 5 at a point, and that it is whole. -/
abbrev st5 (t : Fin cfg0.N) : Memref sig .tc .vmem S1x512 .f32 := win0_5.stage (cfg0.slots t 5)
/-- The staging buffer of this window is a whole buffer. -/
theorem hst5 (t : Fin cfg0.N) : (st5 t).IsWhole := hstage0_5 ((cfg0.slots t 5).cast nbuf0_5)
/-- Window 6 at a point, and that it is whole. -/
abbrev st6 (t : Fin cfg0.N) : Memref sig .tc .vmem S1x512 .f32 := win0_6.stage (cfg0.slots t 6)
/-- The staging buffer of this window is a whole buffer. -/
theorem hst6 (t : Fin cfg0.N) : (st6 t).IsWhole := hstage0_6 ((cfg0.slots t 6).cast nbuf0_6)
/-- Window 7 at a point, and that it is whole. -/
abbrev st7 (t : Fin cfg0.N) : Memref sig .tc .vmem S2x512 .f32 := win0_7.stage (cfg0.slots t 7)
/-- The staging buffer of this window is a whole buffer. -/
theorem hst7 (t : Fin cfg0.N) : (st7 t).IsWhole := hstage0_7 ((cfg0.slots t 7).cast nbuf0_7)
/-- Window 8 at a point, and that it is whole. -/
abbrev st8 (t : Fin cfg0.N) : Memref sig .tc .vmem S1x512 .f32 := win0_8.stage (cfg0.slots t 8)
/-- The staging buffer of this window is a whole buffer. -/
theorem hst8 (t : Fin cfg0.N) : (st8 t).IsWhole := hstage0_8 ((cfg0.slots t 8).cast nbuf0_8)
/-- Window 9 at a point, and that it is whole. -/
abbrev st9 (t : Fin cfg0.N) : Memref sig .tc .vmem S1024x1024 .bf16 := win0_9.stage (cfg0.slots t 9)
/-- The staging buffer of this window is a whole buffer. -/
theorem hst9 (t : Fin cfg0.N) : (st9 t).IsWhole := hstage0_9 ((cfg0.slots t 9).cast nbuf0_9)
/-- Window 10 at a point, and that it is whole. -/
abbrev st10 (t : Fin cfg0.N) : Memref sig .tc .vmem S512x512 .bf16 := win0_10.stage (cfg0.slots t 10)
/-- The staging buffer of this window is a whole buffer. -/
theorem hst10 (t : Fin cfg0.N) : (st10 t).IsWhole := hstage0_10 ((cfg0.slots t 10).cast nbuf0_10)
/-- Window 11 at a point, and that it is whole. -/
abbrev st11 (t : Fin cfg0.N) : Memref sig .tc .vmem S512x512 .bf16 := win0_11.stage (cfg0.slots t 11)
/-- The staging buffer of this window is a whole buffer. -/
theorem hst11 (t : Fin cfg0.N) : (st11 t).IsWhole := hstage0_11 ((cfg0.slots t 11).cast nbuf0_11)
/-- Window 12 at a point, and that it is whole. -/
abbrev st12 (t : Fin cfg0.N) : Memref sig .tc .vmem S512x128 .bf16 := win0_12.stage (cfg0.slots t 12)
/-- The staging buffer of this window is a whole buffer. -/
theorem hst12 (t : Fin cfg0.N) : (st12 t).IsWhole := hstage0_12 ((cfg0.slots t 12).cast nbuf0_12)
/-- Window 13 at a point, and that it is whole. -/
abbrev st13 (t : Fin cfg0.N) : Memref sig .tc .vmem S7x64x64 .f32 := win0_13.stage (cfg0.slots t 13)
/-- The staging buffer of this window is a whole buffer. -/
theorem hst13 (t : Fin cfg0.N) : (st13 t).IsWhole := hstage0_13 ((cfg0.slots t 13).cast nbuf0_13)
/-- Window 14 at a point, and that it is whole. -/
abbrev st14 (t : Fin cfg0.N) : Memref sig .tc .vmem S1x512x1024 .f32 := win0_14.stage (cfg0.slots t 14)
/-- The staging buffer of this window is a whole buffer. -/
theorem hst14 (t : Fin cfg0.N) : (st14 t).IsWhole := hstage0_14 ((cfg0.slots t 14).cast nbuf0_14)
/-- Scratch buffer 0. -/
abbrev sc0 : Memref sig .tc .vmem S8x544x512 .f32 := Memref.whole cc0_scratch0
/-- Scratch buffer 1. -/
abbrev sc1 : Memref sig .tc .vmem S512x512 .f32 := Memref.whole cc0_scratch1
/-- Scratch buffer 2. -/
abbrev sc2 : Memref sig .tc .vmem S512x512 .f32 := Memref.whole cc0_scratch2
/-- Scratch buffer 3. -/
abbrev sc3 : Memref sig .tc .vmem S512x512 .f32 := Memref.whole cc0_scratch3
/-- Scratch buffer 4. -/
abbrev sc4 : Memref sig .tc .vmem S512x512 .f32 := Memref.whole cc0_scratch4
/-- Scratch buffer 5. -/
abbrev sc5 : Memref sig .tc .vmem S512x512 .f32 := Memref.whole cc0_scratch5
/-- Scratch buffer 6. -/
abbrev sc6 : Memref sig .tc .vmem S8x128x512 .bf16 := Memref.whole cc0_scratch6
/-- Scratch buffer 7. -/
abbrev sc7 : Memref sig .tc .vmem S512x512 .f32 := Memref.whole cc0_scratch7
/-- Scratch buffer 8. -/
abbrev sc8 : Memref sig .tc .vmem S4x128x128 .f32 := Memref.whole cc0_scratch8

/-- The body run at a point that starts a batch entry. -/
abbrev runFirst (c : Dev nD) (t : Fin cfg0.N) (hc : fresh (grid0.coords t)) (x16 : Vec F S1x512x1024 .f32) (x17 : Vec F S8x544x512 .f32) (x18 : Vec F S512x512 .f32) (x19 : Vec F S512x512 .f32) (x20 : Vec F S512x512 .f32)
      (x21 : Vec F S512x512 .f32) (x22 : Vec F S512x512 .f32) (x23 : Vec F S8x128x512 .bf16) (x24 : Vec F S512x512 .f32) (x25 : Vec F S4x128x128
      .f32) :=
  bodyFirst (F := F) c (grid0.coords t) (st0 t) (hst0 t) (st1 t) (hst1 t) (st2 t) (hst2 t) (st3 t) (hst3 t) (st4 t) (hst4 t) (st5 t) (hst5 t) (st6 t) (hst6 t) (st7 t) (hst7 t) (st8 t)
      (hst8 t) (st9 t) (hst9 t) (st10 t) (hst10 t) (st11 t) (hst11 t) (st12 t) (hst12 t) (st13 t) (hst13 t) (st14 t) (hst14 t) sc0
      (Memref.isWhole_whole _) sc1 (Memref.isWhole_whole _) sc2 (Memref.isWhole_whole _) sc3 (Memref.isWhole_whole _) sc4 (Memref.isWhole_whole
      _) sc5 (Memref.isWhole_whole _) sc6 (Memref.isWhole_whole _) sc7 (Memref.isWhole_whole _) sc8 (Memref.isWhole_whole _) hc
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x16 x17 x18 x19 x20 x21 x22 x23 x24 x25

/-- The body run at a later point. -/
abbrev runLater (c : Dev nD) (t : Fin cfg0.N) (hc : ¬ fresh (grid0.coords t)) (x16 : Vec F S1x512x1024 .f32) (x17 : Vec F S8x544x512 .f32) (x18 : Vec F S512x512 .f32) (x19 : Vec F S512x512 .f32) (x20 : Vec F S512x512 .f32)
      (x21 : Vec F S512x512 .f32) (x22 : Vec F S512x512 .f32) (x23 : Vec F S8x128x512 .bf16) (x24 : Vec F S512x512 .f32) (x25 : Vec F S4x128x128
      .f32) :=
  bodyLater (F := F) c (grid0.coords t) (st0 t) (hst0 t) (st1 t) (hst1 t) (st2 t) (hst2 t) (st3 t) (hst3 t) (st4 t) (hst4 t) (st5 t) (hst5 t) (st6 t) (hst6 t) (st7 t) (hst7 t) (st8 t)
      (hst8 t) (st9 t) (hst9 t) (st10 t) (hst10 t) (st11 t) (hst11 t) (st12 t) (hst12 t) (st13 t) (hst13 t) (st14 t) (hst14 t) sc0
      (Memref.isWhole_whole _) sc1 (Memref.isWhole_whole _) sc2 (Memref.isWhole_whole _) sc3 (Memref.isWhole_whole _) sc4 (Memref.isWhole_whole
      _) sc5 (Memref.isWhole_whole _) sc6 (Memref.isWhole_whole _) sc7 (Memref.isWhole_whole _) sc8 (Memref.isWhole_whole _) hc
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x16 x17 x18 x19 x20 x21 x22 x23 x24 x25

/-- What the launch hands the region: every scratch buffer at some contents. -/
theorem entry_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ (∃ r, prngReg c r)) := by
  unfold Pipeline.ΦA; rw [scopedRest0_eq]; simp only [sc0, sc1, sc2, sc3, sc4, sc5, sc6, sc7, sc8, owns_whole]; try rfl

/-- The buffers between two points, the two carried ones satisfying a property. -/
def carried (J : ℕ → Vec F S8x544x512 .f32 → Vec F S4x128x128 .f32 → Prop) (c : Dev nD) (n : ℕ) : sProp 𝕄 :=
  iprop(∃ y17 y25, ⌜J n y17 y25⌝ ∗ (owns (c : Thread nD τ) sc0 fullShare y17 ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ owns (c : Thread nD τ) sc8 fullShare y25) ∗ (∃ r, prngReg c r))

/-- One point of the launch keeps the property and leaves an output block with the property asked of it. -/
def Keeps (J : ℕ → Vec F S8x544x512 .f32 → Vec F S4x128x128 .f32 → Prop) (R : Fin cfg0.N → Vec F S1x512x1024 .f32 → Prop) (c : Dev nD) : Prop :=
  ∀ (t : Fin cfg0.N) (x16 : Vec F S1x512x1024 .f32) (x17 : Vec F S8x544x512 .f32) (x18 : Vec F S512x512 .f32) (x19 : Vec F S512x512 .f32) (x20 : Vec F S512x512 .f32)
      (x21 : Vec F S512x512 .f32) (x22 : Vec F S512x512 .f32) (x23 : Vec F S8x128x512 .bf16) (x24 : Vec F S512x512 .f32) (x25 : Vec F S4x128x128
      .f32), J t.val x17 x25 →
    (∀ hc : fresh (grid0.coords t), R t (runFirst m c t hc x16 x17 x18 x19 x20 x21 x22 x23 x24 x25).1
      ∧ J (t.val + 1) (runFirst m c t hc x16 x17 x18 x19 x20 x21 x22 x23 x24 x25).2.1 (runFirst m c t hc x16 x17 x18 x19 x20 x21 x22 x23 x24 x25).2.2.2.2.2.2.2.2.2.1)
    ∧ ∀ hc : ¬ fresh (grid0.coords t), R t (runLater m c t hc x16 x17 x18 x19 x20 x21 x22 x23 x24 x25).1
      ∧ J (t.val + 1) (runLater m c t hc x16 x17 x18 x19 x20 x21 x22 x23 x24 x25).2.1 (runLater m c t hc x16 x17 x18 x19 x20 x21 x22 x23 x24 x25).2.2.2.2.2.2.2.2.2.1

set_option maxHeartbeats 19200000 in
/-- The body at any point, from a property of the carried buffers to the next. -/
theorem sound (J : ℕ → Vec F S8x544x512 .f32 → Vec F S4x128x128 .f32 → Prop) (R : Fin cfg0.N → Vec F S1x512x1024 .f32 → Prop)
    (c : Dev nD) (hk : Keeps m J R c) (Q : sProp 𝕄) (t : Fin cfg0.N) :
    iprop(carried J c t.val ∗ Q ∗ owns (c : Thread nD τ) (st0 t) fullShare (iblk m c 0 t) ∗ owns (c : Thread nD τ) (st1 t) fullShare (iblk m c 1 t) ∗ owns
      (c : Thread nD τ) (st2 t) fullShare (iblk m c 2 t) ∗ owns (c : Thread nD τ) (st3 t) fullShare (iblk m c 3 t) ∗ owns (c : Thread nD τ) (st4
      t) fullShare (iblk m c 4 t) ∗ owns (c : Thread nD τ) (st5 t) fullShare (iblk m c 5 t) ∗ owns (c : Thread nD τ) (st6 t) fullShare (iblk m c
      6 t) ∗ owns (c : Thread nD τ) (st7 t) fullShare (iblk m c 7 t) ∗ owns (c : Thread nD τ) (st8 t) fullShare (iblk m c 8 t) ∗ owns (c : Thread
      nD τ) (st9 t) fullShare (iblk m c 9 t) ∗ owns (c : Thread nD τ) (st10 t) fullShare (iblk m c 10 t) ∗ owns (c : Thread nD τ) (st11 t)
      fullShare (iblk m c 11 t) ∗ owns (c : Thread nD τ) (st12 t) fullShare (iblk m c 12 t) ∗ owns (c : Thread nD τ) (st13 t) fullShare (iblk m c
      13 t) ∗ (∃ d, owns (c : Thread nD τ) (st14 t) fullShare d))
      ⊢ wp frame (wpE (defs₀ (F := F)) Variants.none c none) Set.univ (bodyAt0 t)
        (fun _ => iprop(carried J c (t.val + 1) ∗ Q ∗ owns (c : Thread nD τ) (st0 t) fullShare (iblk m c 0 t) ∗ owns (c : Thread nD τ) (st1 t) fullShare (iblk m c 1 t) ∗
      owns (c : Thread nD τ) (st2 t) fullShare (iblk m c 2 t) ∗ owns (c : Thread nD τ) (st3 t) fullShare (iblk m c 3 t) ∗ owns (c : Thread nD τ)
      (st4 t) fullShare (iblk m c 4 t) ∗ owns (c : Thread nD τ) (st5 t) fullShare (iblk m c 5 t) ∗ owns (c : Thread nD τ) (st6 t) fullShare (iblk
      m c 6 t) ∗ owns (c : Thread nD τ) (st7 t) fullShare (iblk m c 7 t) ∗ owns (c : Thread nD τ) (st8 t) fullShare (iblk m c 8 t) ∗ owns (c :
      Thread nD τ) (st9 t) fullShare (iblk m c 9 t) ∗ owns (c : Thread nD τ) (st10 t) fullShare (iblk m c 10 t) ∗ owns (c : Thread nD τ) (st11 t)
      fullShare (iblk m c 11 t) ∗ owns (c : Thread nD τ) (st12 t) fullShare (iblk m c 12 t) ∗ owns (c : Thread nD τ) (st13 t) fullShare (iblk m c
      13 t) ∗ (∃ d, ⌜R t d⌝ ∗ owns (c : Thread nD τ) (st14 t) fullShare d))) := by
  unfold bodyAt0 carried
  iintro ⟨⟨%x17, %x25, %hJ, ⟨S0, ⟨%x18, S1⟩, ⟨%x19, S2⟩, ⟨%x20, S3⟩, ⟨%x21, S4⟩, ⟨%x22, S5⟩, ⟨%x23, S6⟩, ⟨%x24, S7⟩, S8⟩, Hg⟩, Ho, H0, H1, H2, H3, H4, H5, H6, H7, H8, H9, H10, H11, H12, H13, ⟨%x16, H14⟩⟩
  by_cases h0 : fresh (grid0.coords t)
  · obtain ⟨hR, hJ'⟩ := (hk t x16 x17 x18 x19 x20 x21 x22 x23 x24 x25 hJ).1 h0
    iapply ((runFirst m c t h0 x16 x17 x18 x19 x20 x21 x22 x23 x24 x25).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iintro ⟨H0, H1, H2, H3, H4, H5, H6, H7, H8, H9, H10, H11, H12, H13, H14, S0, S1, S2, S3, S4, S5, S6, S7, S8⟩
    isplitl [S0 S1 S2 S3 S4 S5 S6 S7 S8 Hg]
    · iexists _, _; isplitr
      · ipureintro; exact hJ'
      isplitl [S0 S1 S2 S3 S4 S5 S6 S7 S8]
      · isplitl [S0]; · iexact S0
        isplitl [S1]; · iexists _; iexact S1
        isplitl [S2]; · iexists _; iexact S2
        isplitl [S3]; · iexists _; iexact S3
        isplitl [S4]; · iexists _; iexact S4
        isplitl [S5]; · iexists _; iexact S5
        isplitl [S6]; · iexists _; iexact S6
        isplitl [S7]; · iexists _; iexact S7
        iexact S8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; isplitr
    · ipureintro; exact hR
    iexact H14
  · obtain ⟨hR, hJ'⟩ := (hk t x16 x17 x18 x19 x20 x21 x22 x23 x24 x25 hJ).2 h0
    iapply ((runLater m c t h0 x16 x17 x18 x19 x20 x21 x22 x23 x24 x25).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iintro ⟨H0, H1, H2, H3, H4, H5, H6, H7, H8, H9, H10, H11, H12, H13, H14, S0, S1, S2, S3, S4, S5, S6, S7, S8⟩
    isplitl [S0 S1 S2 S3 S4 S5 S6 S7 S8 Hg]
    · iexists _, _; isplitr
      · ipureintro; exact hJ'
      isplitl [S0 S1 S2 S3 S4 S5 S6 S7 S8]
      · isplitl [S0]; · iexact S0
        isplitl [S1]; · iexists _; iexact S1
        isplitl [S2]; · iexists _; iexact S2
        isplitl [S3]; · iexists _; iexact S3
        isplitl [S4]; · iexists _; iexact S4
        isplitl [S5]; · iexists _; iexact S5
        isplitl [S6]; · iexists _; iexact S6
        isplitl [S7]; · iexists _; iexact S7
        iexact S8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; isplitr
    · ipureintro; exact hR
    iexact H14

/-- The proof data: every input block left as found, the output block as named, the carried buffers as the property says. -/
def dats (J : ℕ → Vec F S8x544x512 .f32 → Vec F S4x128x128 .f32 → Prop) (G : Dev nD → Fin cfg0.N → Vec F S1x512x1024 .f32)
    (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => G c t
  Φ t := carried J c t.val
  q _ := fullShare
  owed _ := 0

section
variable (J : ℕ → Vec F S8x544x512 .f32 → Vec F S4x128x128 .f32 → Prop) (G : Dev nD → Fin cfg0.N → Vec F S1x512x1024 .f32)

/-- The arrays are what the region finds. -/
theorem dats_A (c : Dev nD) (w : Fin cfg0.W) : (dats m J G 0 c).A w = V m c (Pipeline.arrRef spec0 w) := by
  dsimp only [dats]
/-- After a grid point this window holds the named block. -/
theorem dats_after0 (c : Dev nD) (t : Fin cfg0.N) : (dats m J G 0 c).after 0 t = iblk m c 0 t := by dsimp only [dats]
/-- After a grid point this window holds the named block. -/
theorem dats_after1 (c : Dev nD) (t : Fin cfg0.N) : (dats m J G 0 c).after 1 t = iblk m c 1 t := by dsimp only [dats]
/-- After a grid point this window holds the named block. -/
theorem dats_after2 (c : Dev nD) (t : Fin cfg0.N) : (dats m J G 0 c).after 2 t = iblk m c 2 t := by dsimp only [dats]
/-- After a grid point this window holds the named block. -/
theorem dats_after3 (c : Dev nD) (t : Fin cfg0.N) : (dats m J G 0 c).after 3 t = iblk m c 3 t := by dsimp only [dats]
/-- After a grid point this window holds the named block. -/
theorem dats_after4 (c : Dev nD) (t : Fin cfg0.N) : (dats m J G 0 c).after 4 t = iblk m c 4 t := by dsimp only [dats]
/-- After a grid point this window holds the named block. -/
theorem dats_after5 (c : Dev nD) (t : Fin cfg0.N) : (dats m J G 0 c).after 5 t = iblk m c 5 t := by dsimp only [dats]
/-- After a grid point this window holds the named block. -/
theorem dats_after6 (c : Dev nD) (t : Fin cfg0.N) : (dats m J G 0 c).after 6 t = iblk m c 6 t := by dsimp only [dats]
/-- After a grid point this window holds the named block. -/
theorem dats_after7 (c : Dev nD) (t : Fin cfg0.N) : (dats m J G 0 c).after 7 t = iblk m c 7 t := by dsimp only [dats]
/-- After a grid point this window holds the named block. -/
theorem dats_after8 (c : Dev nD) (t : Fin cfg0.N) : (dats m J G 0 c).after 8 t = iblk m c 8 t := by dsimp only [dats]
/-- After a grid point this window holds the named block. -/
theorem dats_after9 (c : Dev nD) (t : Fin cfg0.N) : (dats m J G 0 c).after 9 t = iblk m c 9 t := by dsimp only [dats]
/-- After a grid point this window holds the named block. -/
theorem dats_after10 (c : Dev nD) (t : Fin cfg0.N) : (dats m J G 0 c).after 10 t = iblk m c 10 t := by dsimp only [dats]
/-- After a grid point this window holds the named block. -/
theorem dats_after11 (c : Dev nD) (t : Fin cfg0.N) : (dats m J G 0 c).after 11 t = iblk m c 11 t := by dsimp only [dats]
/-- After a grid point this window holds the named block. -/
theorem dats_after12 (c : Dev nD) (t : Fin cfg0.N) : (dats m J G 0 c).after 12 t = iblk m c 12 t := by dsimp only [dats]
/-- After a grid point this window holds the named block. -/
theorem dats_after13 (c : Dev nD) (t : Fin cfg0.N) : (dats m J G 0 c).after 13 t = iblk m c 13 t := by dsimp only [dats]
/-- After a grid point this window holds the named block. -/
theorem dats_after14 (c : Dev nD) (t : Fin cfg0.N) : (dats m J G 0 c).after 14 t = G c t := by dsimp only [dats]
/-- Before a grid point this window holds the block that its copy fetched. -/
theorem dats_before0 (c : Dev nD) (t : Fin cfg0.N) (d) : (dats m J G 0 c).before 0 t d = iblk m c 0 t :=
  before0_0_of m (dats m J G 0 c) (dats_A m J G c 0) (dats_after0 m J G c) t d
/-- Before a grid point this window holds the block that its copy fetched. -/
theorem dats_before1 (c : Dev nD) (t : Fin cfg0.N) (d) : (dats m J G 0 c).before 1 t d = iblk m c 1 t :=
  before0_1_of m (dats m J G 0 c) (dats_A m J G c 1) (dats_after1 m J G c) t d
/-- Before a grid point this window holds the block that its copy fetched. -/
theorem dats_before2 (c : Dev nD) (t : Fin cfg0.N) (d) : (dats m J G 0 c).before 2 t d = iblk m c 2 t :=
  before0_2_of m (dats m J G 0 c) (dats_A m J G c 2) (dats_after2 m J G c) t d
/-- Before a grid point this window holds the block that its copy fetched. -/
theorem dats_before3 (c : Dev nD) (t : Fin cfg0.N) (d) : (dats m J G 0 c).before 3 t d = iblk m c 3 t :=
  before0_3_of m (dats m J G 0 c) (dats_A m J G c 3) (dats_after3 m J G c) t d
/-- Before a grid point this window holds the block that its copy fetched. -/
theorem dats_before4 (c : Dev nD) (t : Fin cfg0.N) (d) : (dats m J G 0 c).before 4 t d = iblk m c 4 t :=
  before0_4_of m (dats m J G 0 c) (dats_A m J G c 4) (dats_after4 m J G c) t d
/-- Before a grid point this window holds the block that its copy fetched. -/
theorem dats_before5 (c : Dev nD) (t : Fin cfg0.N) (d) : (dats m J G 0 c).before 5 t d = iblk m c 5 t :=
  before0_5_of m (dats m J G 0 c) (dats_A m J G c 5) (dats_after5 m J G c) t d
/-- Before a grid point this window holds the block that its copy fetched. -/
theorem dats_before6 (c : Dev nD) (t : Fin cfg0.N) (d) : (dats m J G 0 c).before 6 t d = iblk m c 6 t :=
  before0_6_of m (dats m J G 0 c) (dats_A m J G c 6) (dats_after6 m J G c) t d
/-- Before a grid point this window holds the block that its copy fetched. -/
theorem dats_before7 (c : Dev nD) (t : Fin cfg0.N) (d) : (dats m J G 0 c).before 7 t d = iblk m c 7 t :=
  before0_7_of m (dats m J G 0 c) (dats_A m J G c 7) (dats_after7 m J G c) t d
/-- Before a grid point this window holds the block that its copy fetched. -/
theorem dats_before8 (c : Dev nD) (t : Fin cfg0.N) (d) : (dats m J G 0 c).before 8 t d = iblk m c 8 t :=
  before0_8_of m (dats m J G 0 c) (dats_A m J G c 8) (dats_after8 m J G c) t d
/-- Before a grid point this window holds the block that its copy fetched. -/
theorem dats_before9 (c : Dev nD) (t : Fin cfg0.N) (d) : (dats m J G 0 c).before 9 t d = iblk m c 9 t :=
  before0_9_of m (dats m J G 0 c) (dats_A m J G c 9) (dats_after9 m J G c) t d
/-- Before a grid point this window holds the block that its copy fetched. -/
theorem dats_before10 (c : Dev nD) (t : Fin cfg0.N) (d) : (dats m J G 0 c).before 10 t d = iblk m c 10 t :=
  before0_10_of m (dats m J G 0 c) (dats_A m J G c 10) (dats_after10 m J G c) t d
/-- Before a grid point this window holds the block that its copy fetched. -/
theorem dats_before11 (c : Dev nD) (t : Fin cfg0.N) (d) : (dats m J G 0 c).before 11 t d = iblk m c 11 t :=
  before0_11_of m (dats m J G 0 c) (dats_A m J G c 11) (dats_after11 m J G c) t d
/-- Before a grid point this window holds the block that its copy fetched. -/
theorem dats_before12 (c : Dev nD) (t : Fin cfg0.N) (d) : (dats m J G 0 c).before 12 t d = iblk m c 12 t :=
  before0_12_of m (dats m J G 0 c) (dats_A m J G c 12) (dats_after12 m J G c) t d
/-- Before a grid point this window holds the block that its copy fetched. -/
theorem dats_before13 (c : Dev nD) (t : Fin cfg0.N) (d) : (dats m J G 0 c).before 13 t d = iblk m c 13 t :=
  before0_13_of m (dats m J G 0 c) (dats_A m J G c 13) (dats_after13 m J G c) t d

/-- What the launch hands the region gives the property before the first point. -/
theorem hin (h0 : ∀ x17 x25, J 0 x17 x25) (c : Dev nD) : Pipeline.ΦA spec0 c ⊢ (dats m J G 0 c).Φ 0 := by
  rw [show (dats m J G 0 c).Φ 0 = carried J c 0 from rfl, entry_eq]; unfold carried
  iintro ⟨⟨⟨%d0, S0⟩, S1, S2, S3, S4, S5, S6, S7, ⟨%d8, S8⟩⟩, Hg⟩
  iexists d0, d8; isplitr
  · ipureintro; exact h0 _ _
  isplitl [S0 S1 S2 S3 S4 S5 S6 S7 S8]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  iexact Hg

/-- After the last point the contents are forgotten. -/
theorem hout (c : Dev nD) : (dats m J G 0 c).Φ (Fin.last cfg0.N) ⊢ Pipeline.ΦA spec0 c := by
  rw [show (dats m J G 0 c).Φ (Fin.last cfg0.N) = carried J c (Fin.last cfg0.N).val from rfl, entry_eq]; unfold carried
  iintro ⟨%d0, %d8, -, ⟨S0, S1, S2, S3, S4, S5, S6, S7, S8⟩, Hg⟩
  isplitl [S0 S1 S2 S3 S4 S5 S6 S7 S8]
  · isplitl [S0]; · iexists _; iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexists _; iexact S8
  iexact Hg
end

set_option maxHeartbeats 19200000 in
/-- The obligation of the launch at one point, the output forgotten. -/
theorem pointF (J : ℕ → Vec F S8x544x512 .f32 → Vec F S4x128x128 .f32 → Prop) (G : Dev nD → Fin cfg0.N → Vec F S1x512x1024 .f32)
    (c : Dev nD) (hk : Keeps m J (fun _ _ => True) c) (t : Fin cfg0.N) :
    iprop((dats m J G 0 c).Φ t.castSucc ∗ (dats m J G 0 c).owesAt () t.castSucc ∗ (∃ d, owns (c : Thread nD τ) (st0 t) fullShare ((dats m J G 0 c).before 0
      t d)) ∗ (∃ d, owns (c : Thread nD τ) (st1 t) fullShare ((dats m J G 0 c).before 1 t d)) ∗ (∃ d, owns (c : Thread nD τ) (st2 t) fullShare
      ((dats m J G 0 c).before 2 t d)) ∗ (∃ d, owns (c : Thread nD τ) (st3 t) fullShare ((dats m J G 0 c).before 3 t d)) ∗ (∃ d, owns (c : Thread
      nD τ) (st4 t) fullShare ((dats m J G 0 c).before 4 t d)) ∗ (∃ d, owns (c : Thread nD τ) (st5 t) fullShare ((dats m J G 0 c).before 5 t d))
      ∗ (∃ d, owns (c : Thread nD τ) (st6 t) fullShare ((dats m J G 0 c).before 6 t d)) ∗ (∃ d, owns (c : Thread nD τ) (st7 t) fullShare ((dats m
      J G 0 c).before 7 t d)) ∗ (∃ d, owns (c : Thread nD τ) (st8 t) fullShare ((dats m J G 0 c).before 8 t d)) ∗ (∃ d, owns (c : Thread nD τ)
      (st9 t) fullShare ((dats m J G 0 c).before 9 t d)) ∗ (∃ d, owns (c : Thread nD τ) (st10 t) fullShare ((dats m J G 0 c).before 10 t d)) ∗ (∃
      d, owns (c : Thread nD τ) (st11 t) fullShare ((dats m J G 0 c).before 11 t d)) ∗ (∃ d, owns (c : Thread nD τ) (st12 t) fullShare ((dats m J
      G 0 c).before 12 t d)) ∗ (∃ d, owns (c : Thread nD τ) (st13 t) fullShare ((dats m J G 0 c).before 13 t d)) ∗ (∃ d, owns (c : Thread nD τ)
      (st14 t) fullShare d))
      ⊢ wp frame (wpE (defs₀ (F := F)) Variants.none c none) Set.univ (bodyAt0 t)
        (fun _ => iprop((dats m J G 0 c).Φ t.succ ∗ (dats m J G 0 c).owesAt () t.succ ∗ owns (c : Thread nD τ) (st0 t) fullShare ((dats m J G 0 c).after 0 t) ∗ owns (c :
      Thread nD τ) (st1 t) fullShare ((dats m J G 0 c).after 1 t) ∗ owns (c : Thread nD τ) (st2 t) fullShare ((dats m J G 0 c).after 2 t) ∗ owns
      (c : Thread nD τ) (st3 t) fullShare ((dats m J G 0 c).after 3 t) ∗ owns (c : Thread nD τ) (st4 t) fullShare ((dats m J G 0 c).after 4 t) ∗
      owns (c : Thread nD τ) (st5 t) fullShare ((dats m J G 0 c).after 5 t) ∗ owns (c : Thread nD τ) (st6 t) fullShare ((dats m J G 0 c).after 6
      t) ∗ owns (c : Thread nD τ) (st7 t) fullShare ((dats m J G 0 c).after 7 t) ∗ owns (c : Thread nD τ) (st8 t) fullShare ((dats m J G 0
      c).after 8 t) ∗ owns (c : Thread nD τ) (st9 t) fullShare ((dats m J G 0 c).after 9 t) ∗ owns (c : Thread nD τ) (st10 t) fullShare ((dats m
      J G 0 c).after 10 t) ∗ owns (c : Thread nD τ) (st11 t) fullShare ((dats m J G 0 c).after 11 t) ∗ owns (c : Thread nD τ) (st12 t) fullShare
      ((dats m J G 0 c).after 12 t) ∗ owns (c : Thread nD τ) (st13 t) fullShare ((dats m J G 0 c).after 13 t) ∗ (∃ d, owns (c : Thread nD τ)
      (st14 t) fullShare d))) := by
  simp only [dats_before0, dats_before1, dats_before2, dats_before3, dats_before4, dats_before5, dats_before6, dats_before7, dats_before8, dats_before9, dats_before10, dats_before11, dats_before12, dats_before13]
  rw [show (dats m J G 0 c).owesAt () t.succ = (dats m J G 0 c).owesAt () t.castSucc from rfl, dats_after0, dats_after1, dats_after2, dats_after3, dats_after4, dats_after5, dats_after6, dats_after7, dats_after8, dats_after9, dats_after10, dats_after11, dats_after12, dats_after13]
  rw [show (dats m J G 0 c).Φ t.castSucc = carried J c t.val from rfl, show (dats m J G 0 c).Φ t.succ = carried J c (t.val + 1) from rfl]
  refine BIBase.Entails.trans ?_ (BIBase.Entails.trans (sound m J (fun _ _ => True) c hk ((dats m J G 0 c).owesAt () t.castSucc) t) (Idealize.SL.Sem.wp_mono _ _ _ ?_))
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14
  · intro _
    iintro ⟨HΦ, Ho, H0, H1, H2, H3, H4, H5, H6, H7, H8, H9, H10, H11, H12, H13, ⟨%d14, %hd, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14

set_option maxHeartbeats 19200000 in
/-- The obligation of the launch at one point, the output named. -/
theorem pointN (J : ℕ → Vec F S8x544x512 .f32 → Vec F S4x128x128 .f32 → Prop) (G : Dev nD → Fin cfg0.N → Vec F S1x512x1024 .f32)
    (c : Dev nD) (hk : Keeps m J (fun t d => d = G c t) c) (t : Fin cfg0.N) :
    iprop((dats m J G 0 c).Φ t.castSucc ∗ (dats m J G 0 c).owesAt () t.castSucc ∗ (∃ d, owns (c : Thread nD τ) (st0 t) fullShare ((dats m J G 0 c).before 0
      t d)) ∗ (∃ d, owns (c : Thread nD τ) (st1 t) fullShare ((dats m J G 0 c).before 1 t d)) ∗ (∃ d, owns (c : Thread nD τ) (st2 t) fullShare
      ((dats m J G 0 c).before 2 t d)) ∗ (∃ d, owns (c : Thread nD τ) (st3 t) fullShare ((dats m J G 0 c).before 3 t d)) ∗ (∃ d, owns (c : Thread
      nD τ) (st4 t) fullShare ((dats m J G 0 c).before 4 t d)) ∗ (∃ d, owns (c : Thread nD τ) (st5 t) fullShare ((dats m J G 0 c).before 5 t d))
      ∗ (∃ d, owns (c : Thread nD τ) (st6 t) fullShare ((dats m J G 0 c).before 6 t d)) ∗ (∃ d, owns (c : Thread nD τ) (st7 t) fullShare ((dats m
      J G 0 c).before 7 t d)) ∗ (∃ d, owns (c : Thread nD τ) (st8 t) fullShare ((dats m J G 0 c).before 8 t d)) ∗ (∃ d, owns (c : Thread nD τ)
      (st9 t) fullShare ((dats m J G 0 c).before 9 t d)) ∗ (∃ d, owns (c : Thread nD τ) (st10 t) fullShare ((dats m J G 0 c).before 10 t d)) ∗ (∃
      d, owns (c : Thread nD τ) (st11 t) fullShare ((dats m J G 0 c).before 11 t d)) ∗ (∃ d, owns (c : Thread nD τ) (st12 t) fullShare ((dats m J
      G 0 c).before 12 t d)) ∗ (∃ d, owns (c : Thread nD τ) (st13 t) fullShare ((dats m J G 0 c).before 13 t d)) ∗ (∃ d, owns (c : Thread nD τ)
      (st14 t) fullShare ((dats m J G 0 c).before 14 t d)))
      ⊢ wp frame (wpE (defs₀ (F := F)) Variants.none c none) Set.univ (bodyAt0 t)
        (fun _ => iprop((dats m J G 0 c).Φ t.succ ∗ (dats m J G 0 c).owesAt () t.succ ∗ owns (c : Thread nD τ) (st0 t) fullShare ((dats m J G 0 c).after 0 t) ∗ owns (c :
      Thread nD τ) (st1 t) fullShare ((dats m J G 0 c).after 1 t) ∗ owns (c : Thread nD τ) (st2 t) fullShare ((dats m J G 0 c).after 2 t) ∗ owns
      (c : Thread nD τ) (st3 t) fullShare ((dats m J G 0 c).after 3 t) ∗ owns (c : Thread nD τ) (st4 t) fullShare ((dats m J G 0 c).after 4 t) ∗
      owns (c : Thread nD τ) (st5 t) fullShare ((dats m J G 0 c).after 5 t) ∗ owns (c : Thread nD τ) (st6 t) fullShare ((dats m J G 0 c).after 6
      t) ∗ owns (c : Thread nD τ) (st7 t) fullShare ((dats m J G 0 c).after 7 t) ∗ owns (c : Thread nD τ) (st8 t) fullShare ((dats m J G 0
      c).after 8 t) ∗ owns (c : Thread nD τ) (st9 t) fullShare ((dats m J G 0 c).after 9 t) ∗ owns (c : Thread nD τ) (st10 t) fullShare ((dats m
      J G 0 c).after 10 t) ∗ owns (c : Thread nD τ) (st11 t) fullShare ((dats m J G 0 c).after 11 t) ∗ owns (c : Thread nD τ) (st12 t) fullShare
      ((dats m J G 0 c).after 12 t) ∗ owns (c : Thread nD τ) (st13 t) fullShare ((dats m J G 0 c).after 13 t) ∗ owns (c : Thread nD τ) (st14 t)
      fullShare ((dats m J G 0 c).after 14 t))) := by
  simp only [dats_before0, dats_before1, dats_before2, dats_before3, dats_before4, dats_before5, dats_before6, dats_before7, dats_before8, dats_before9, dats_before10, dats_before11, dats_before12, dats_before13]
  rw [show (dats m J G 0 c).owesAt () t.succ = (dats m J G 0 c).owesAt () t.castSucc from rfl, dats_after0, dats_after1, dats_after2, dats_after3, dats_after4, dats_after5, dats_after6, dats_after7, dats_after8, dats_after9, dats_after10, dats_after11, dats_after12, dats_after13, dats_after14]
  rw [show (dats m J G 0 c).Φ t.castSucc = carried J c t.val from rfl, show (dats m J G 0 c).Φ t.succ = carried J c (t.val + 1) from rfl]
  refine BIBase.Entails.trans ?_ (BIBase.Entails.trans (sound m J (fun t d => d = G c t) c hk ((dats m J G 0 c).owesAt () t.castSucc) t) (Idealize.SL.Sem.wp_mono _ _ _ ?_))
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14
  · intro _
    iintro ⟨HΦ, Ho, H0, H1, H2, H3, H4, H5, H6, H7, H8, H9, H10, H11, H12, H13, ⟨%d14, %hd, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    rw [← hd]; iexact H14

/-- The body table's row at a point is the body. -/
theorem row (t : Fin cfg0.N) : defs₀ (F := F) .tc cfg0.body (cfg0.bodyArgs t (cfg0.slots t)) = bodyAt0 t := by
  unfold defs₀; rw [Defs.onTc_tc]

/-- Only the output's contents are forgotten. -/
def forgets : Fin cfg0.W → Bool := fun w => w.val == 14

/-- Nothing is asked of the carried buffers. -/
abbrev anyJ : ℕ → Vec F S8x544x512 .f32 → Vec F S4x128x128 .f32 → Prop := fun _ _ _ => True

/-- A stand-in for the output where nothing is said of it. -/
def anyG (c : Dev nD) (t : Fin cfg0.N) : Vec F S1x512x1024 .f32 := Pipeline.Dat.unnamed (cfg := cfg0) 14 t

/-- The obligation with the output forgotten. -/
theorem obligationF (c : Dev nD) : BodyObligation (dats (F := F) m anyJ anyG 0 c) (defs₀ (F := F)) Variants.none () Set.univ forgets := fun t => by
  rw [bigSep_W0, bigSep_W0, row]
  exact triple_restated (pointF m anyJ anyG c (fun _ _ _ _ _ _ _ _ _ _ _ _ => ⟨fun _ => ⟨trivial, trivial⟩, fun _ => ⟨trivial, trivial⟩⟩) t) rfl .rfl fun _ => .rfl

/-- The obligation with the output named. -/
theorem obligationN (J : ℕ → Vec F S8x544x512 .f32 → Vec F S4x128x128 .f32 → Prop) (G : Dev nD → Fin cfg0.N → Vec F S1x512x1024 .f32)
    (c : Dev nD) (hk : Keeps m J (fun t d => d = G c t) c) :
    BodyObligation (dats (F := F) m J G 0 c) (defs₀ (F := F)) Variants.none () Set.univ := fun t => by
  rw [bigSep_W0, bigSep_W0, row]
  exact triple_restated (pointN m J G c hk t) rfl .rfl fun _ => .rfl

set_option backward.isDefEq.respectTransparency.types false in
/-- The launch, the output forgotten: it ends with the inputs as found and every counter at zero. -/
theorem run_forget : θ_run defs (onTc (τ := τ) (main (F := F))) (s₀ m ρ)
    (fun r => (Pipeline.RDat.FramePost (cfgs 0) (fun c => (dats m anyJ anyG 0 c).toRForget forgets) (V m)) r ∧ r.2.sem = fun _ => 0) :=
  Pipeline.θ_run_frame_track_forget (Q' := _) cfgs (dats m anyJ anyG) (0 : Fin 1) launch0 defs₀ Variants.none forgets m ρ main
    (hbody := fun c => (obligationF m c).loose) (hshare := fun c => (dats m anyJ anyG 0 c).share_full fun _ => rfl)
    (howed := fun _ _ => rfl) (V := V m) (hmain := hmain m Variants.none) (hA := dats_A m anyJ anyG)
    (hin := hin m anyJ anyG fun _ _ => trivial) (hout := hout m anyJ anyG)

set_option backward.isDefEq.respectTransparency.types false in
/-- The launch, the output named: every array ends at what the points leave in it, every counter at zero. -/
theorem run_named (J : ℕ → Vec F S8x544x512 .f32 → Vec F S4x128x128 .f32 → Prop) (G : Dev nD → Fin cfg0.N → Vec F S1x512x1024 .f32)
    (h0 : ∀ x17 x25, J 0 x17 x25) (hk : ∀ c, Keeps m J (fun t d => d = G c t) c) :
    θ_run defs (onTc (τ := τ) (main (F := F))) (s₀ m ρ)
      (fun r => Pipeline.FramePost cfgs (dats m J G) 0 (V m) r ∧ r.2.sem = fun _ => 0) :=
  Pipeline.θ_run_frame_track (Q' := _) cfgs (dats m J G) (0 : Fin 1) launch0 defs₀ Variants.none m ρ main
    (hbody := fun c => (obligationN m J G c (hk c)).loose) (hshare := fun c => (dats m J G 0 c).share_full fun _ => rfl)
    (howed := fun _ _ => rfl) (V := V m) (hmain := hmain m Variants.none) (hA := dats_A m J G)
    (hin := hin m J G h0) (hout := hout m J G)

set_option maxHeartbeats 4000000 in
/-- The frame: the arguments end as they began, every counter at zero. -/
theorem frame' : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc :
      Thread nD τ).loc main_arg1) ∧ r.2.mem ((c.tc : Thread nD τ).loc main_arg2) = m ((c.tc : Thread nD τ).loc main_arg2) ∧ r.2.mem ((c.tc :
      Thread nD τ).loc main_arg3) = m ((c.tc : Thread nD τ).loc main_arg3) ∧ r.2.mem ((c.tc : Thread nD τ).loc main_arg4) = m ((c.tc : Thread nD
      τ).loc main_arg4) ∧ r.2.mem ((c.tc : Thread nD τ).loc main_arg5) = m ((c.tc : Thread nD τ).loc main_arg5) ∧ r.2.mem ((c.tc : Thread nD
      τ).loc main_arg6) = m ((c.tc : Thread nD τ).loc main_arg6) ∧ r.2.mem ((c.tc : Thread nD τ).loc main_arg7) = m ((c.tc : Thread nD τ).loc
      main_arg7) ∧ r.2.mem ((c.tc : Thread nD τ).loc main_arg8) = m ((c.tc : Thread nD τ).loc main_arg8) ∧ r.2.mem ((c.tc : Thread nD τ).loc
      main_arg9) = m ((c.tc : Thread nD τ).loc main_arg9))
      ∧ r.2.sem = fun _ => 0) :=
  (θ_run defs _ _).mono (fun _ h => ⟨fun c => ⟨(Pipeline.RDat.FramePost.arr_in h.1 c 0 rfl).trans ((dats_A m anyJ anyG c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans ((dats_A m anyJ anyG c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (Pipeline.RDat.FramePost.arr_in h.1 c 7 rfl).trans ((dats_A m anyJ anyG c 7).trans (V_main_arg7 m c)),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_forget m ρ)

end Cert.KernelIdeal.Mix

end
-- ==== Proof.RowMath.lean ====
/- The channel mixer of one token, as a function of the token's row. -/
module

public import Idealize.ShloMosaic.Lib.Pointwise
public import Idealize.ShloMosaic.PureOps.Ideal.Laws

@[expose] public section

noncomputable section

namespace Cert.RowMath

open Idealize.ShloMosaic

/-- The reciprocal root mean square of a row of 1024 entries, with the layer's epsilon. -/
def rmsScale (f : Fin 1024 → EReal) : EReal :=
  Ideal.rsqrt (Ideal.div (∑ k : Fin 1024, f k * f k) (Ideal.ofBits .f32 0x44800000#32) + Ideal.ofBits .f32 0x358637BD#32)

/-- RMS normalisation of a row with gain `g`. -/
def normed (f g : Fin 1024 → EReal) (j : Fin 1024) : EReal := f j * rmsScale f * g j

/-- Hidden unit `k` of the squared-ReLU feed-forward part, from its pre-activation. -/
def relu2 (z : EReal) : EReal := max z 0 * max z 0

/-- The residual row plus the feed-forward part of its normalised row: 4096 hidden units. -/
def mlp (h g : Fin 1024 → EReal) (up : Fin 1024 → Fin 4096 → EReal) (down : Fin 4096 → Fin 1024 → EReal) (j : Fin 1024) : EReal :=
  h j + ∑ k : Fin 4096, relu2 (∑ i : Fin 1024, normed h g i * up i k) * down k j

/-- A row `a` plus the normalised embedding row `e`, gated by the sigmoid of `a` through the gate matrix. -/
def gated (a e g : Fin 1024 → EReal) (gate : Fin 1024 → Fin 1024 → EReal) (j : Fin 1024) : EReal :=
  a j + normed e g j * Ideal.logistic (∑ i : Fin 1024, a i * gate i j)

/-- The whole channel mixer of one token: residual row `h`, per-layer embedding row `p`, the weights and the gains. -/
def channel (h : Fin 1024 → EReal) (p : Fin 256 → EReal) (ng : Fin 1024 → EReal) (up : Fin 1024 → Fin 4096 → EReal)
    (down : Fin 4096 → Fin 1024 → EReal) (ple : Fin 256 → Fin 1024 → EReal) (pg : Fin 1024 → EReal)
    (gate : Fin 1024 → Fin 1024 → EReal) (fg : Fin 1024 → EReal) : Fin 1024 → EReal :=
  normed (gated (mlp h ng up down) (fun j => ∑ i : Fin 256, p i * ple i j) pg gate) fg

/-- One slab of 1024 hidden units, starting at unit `o`. -/
def slab (v : Fin 1024 → EReal) (up : Fin 1024 → Fin 1024 → EReal) (down : Fin 1024 → Fin 1024 → EReal) (j : Fin 1024) : EReal :=
  ∑ k : Fin 1024, relu2 (∑ i : Fin 1024, v i * up i k) * down k j

/-- The feed-forward sum over 4096 hidden units, accumulated in four slabs of 1024 in order. -/
theorem mlp_eq_slabs (h g : Fin 1024 → EReal) (up : Fin 1024 → Fin 4096 → EReal) (down : Fin 4096 → Fin 1024 → EReal)
    (j : Fin 1024) :
    h j + slab (normed h g) (fun i k => up i ⟨k.val, by omega⟩) (fun k j => down ⟨k.val, by omega⟩ j) j
        + slab (normed h g) (fun i k => up i ⟨1024 + k.val, by omega⟩) (fun k j => down ⟨1024 + k.val, by omega⟩ j) j
        + slab (normed h g) (fun i k => up i ⟨2048 + k.val, by omega⟩) (fun k j => down ⟨2048 + k.val, by omega⟩ j) j
        + slab (normed h g) (fun i k => up i ⟨3072 + k.val, by omega⟩) (fun k j => down ⟨3072 + k.val, by omega⟩ j) j
      = mlp h g up down j := by
  unfold mlp slab
  rw [Fin.sum_univ_two_halves 1024 3072 rfl, Fin.sum_univ_two_halves (N := 3072) 1024 2048 rfl,
    Fin.sum_univ_two_halves (N := 2048) 1024 1024 rfl]
  simp only [← Nat.add_assoc, Nat.reduceAdd, add_assoc]

end Cert.RowMath

end
-- ==== Proof.MixTab.lean ====
/- The levels of a chunk of sixty-four rows: which pairs of rows each one accounts for. -/
module

public import Idealize.ShloMosaic.Lib.Pointwise
public import Idealize.ShloMosaic.PureOps.Ideal.Laws

@[expose] public section

set_option maxRecDepth 16384

noncomputable section

namespace Cert.Recur

/-- Whether a row's binary digit `l` is set. -/
def bit (l : Fin 6) (p : Fin 64) : Bool := p.val / 2 ^ l.val % 2 == 1

/-- The rows whose log decays level `l` sums for row `p`. -/
def upTo (l : Fin 6) (p r : Fin 64) : Bool :=
  p.val / 2 ^ l.val == r.val / 2 ^ l.val && (if p.val / 2 ^ l.val % 2 == 1 then decide (r.val ≤ p.val) else decide (p.val < r.val))

/-- The pairs of rows level `l` accounts for. -/
def split (l : Fin 6) (t s : Fin 64) : Bool :=
  t.val / 2 ^ (l.val + 1) == s.val / 2 ^ (l.val + 1) && decide (2 ^ (l.val + 1) ≤ t.val % 2 ^ (l.val + 1) * 2)
    && decide (s.val % 2 ^ (l.val + 1) * 2 < 2 ^ (l.val + 1))

/-- A pair of a level has its digit set in the later row and clear in the earlier one. -/
theorem split_bits : ∀ (l : Fin 6) (t s : Fin 64), split l t s = true → bit l t = true ∧ bit l s = false ∧ s.val < t.val := by
  decide +kernel

/-- The windows of the two rows of a pair are apart, and together they are the rows after the earlier one up to the later one. -/
theorem split_upTo : ∀ (l : Fin 6) (t s : Fin 64), split l t s = true → ∀ r : Fin 64,
    (upTo l t r = true ∨ upTo l s r = true ↔ s.val + 1 ≤ r.val ∧ r.val < t.val + 1) ∧ ¬ (upTo l t r = true ∧ upTo l s r = true) := by
  decide +kernel

/-- Every pair of different rows belongs to exactly one level. -/
theorem split_unique : ∀ (t s : Fin 64), s.val < t.val → ∃ l : Fin 6, split l t s = true ∧ ∀ l' : Fin 6, l' ≠ l → split l' t s = false := by
  decide +kernel

end Cert.Recur

end
-- ==== Proof.MixReal.lean ====
/- The gated linear recurrence of one head over the reals: sixty-four rows at a time against the direct double sum. -/
module

public import Idealize.ShloMosaic.Lib.Pointwise
public import proofs.«01_k».proof.Proof.MixTab
public import Idealize.ShloMosaic.PureOps.Ideal.Laws

@[expose] public section

set_option maxRecDepth 16384

noncomputable section

namespace Cert.Recur

open Finset

/-- The running sum of the log decays of one channel before row `n`. -/
def acc (f : ℕ → ℝ) (n : ℕ) : ℝ := ∑ r ∈ range n, f r

/-- The recurrent state before row `n`: every earlier row's outer product, decayed since. -/
def state (k v L : ℕ → Fin 128 → ℝ) (n : ℕ) (e d : Fin 128) : ℝ :=
  ∑ s ∈ range n, v s e * (k s d * Real.exp (acc (fun r => L r d) n - acc (fun r => L r d) (s + 1)))

/-- The recurrence's output at row `t`: the decayed attention over the rows up to `t`. -/
def out (q k v L : ℕ → Fin 128 → ℝ) (t : ℕ) (e : Fin 128) : ℝ :=
  ∑ s ∈ range (t + 1), (∑ d, q t d * k s d * Real.exp (acc (fun r => L r d) (t + 1) - acc (fun r => L r d) (s + 1))) * v s e

/-- A sum over the rows of a chunk picked by a window is a difference of running sums. -/
theorem sum_window (f : ℕ → ℝ) (n : ℕ) {a b : ℕ} (hab : a ≤ b) (hb : b ≤ 64) (P : Fin 64 → Bool)
    (hP : ∀ r, P r = true ↔ a ≤ r.val ∧ r.val < b) :
    ∑ r : Fin 64, (if P r then (1 : ℝ) else 0) * f (n + r.val) = acc f (n + b) - acc f (n + a) := by
  have e : ∀ r : Fin 64, (if P r then (1 : ℝ) else 0) * f (n + r.val)
      = (fun i : ℕ => if a ≤ i ∧ i < b then f (n + i) else 0) r.val := by
    intro r
    by_cases h : P r = true
    · rw [if_pos h, one_mul]; exact (if_pos ((hP r).1 h)).symm
    · rw [if_neg h, zero_mul]; exact (if_neg (fun h' => h ((hP r).2 h'))).symm
  rw [Finset.sum_congr rfl (fun r _ => e r), Fin.sum_univ_eq_sum_range (fun i : ℕ => if a ≤ i ∧ i < b then f (n + i) else 0) 64,
    ← Finset.sum_filter]
  have h2 : (range 64).filter (fun i => a ≤ i ∧ i < b) = Ico a b := by
    ext i; simp only [mem_filter, mem_range, mem_Ico]; omega
  rw [h2, Finset.sum_Ico_add f a b n, Finset.sum_Ico_eq_sub f (by omega)]
  unfold acc
  rw [Nat.add_comm b n, Nat.add_comm a n]

section
variable (q k v L : ℕ → Fin 128 → ℝ) (n : ℕ)

/-- Row `p` of a chunk at level `l`: the query or the key, decayed within its half block. -/
def mix (l : Fin 6) (p : Fin 64) (d : Fin 128) : ℝ :=
  (if bit l p then q (n + p.val) d else k (n + p.val) d) * Real.exp (∑ r : Fin 64, (if upTo l p r then (1 : ℝ) else 0) * L (n + r.val) d)

/-- The attention of a chunk, put together level by level. -/
def attn (p s : Fin 64) : ℝ :=
  (∑ d, q (n + p.val) d * k (n + s.val) d) * (if p = s then 1 else 0)
    + ∑ l : Fin 6, (∑ d, mix q k L n l p d * mix q k L n l s d) * (if split l p s then 1 else 0)

/-- One level's product is the decayed product of the query of the later row and the key of the earlier one. -/
theorem mix_mul (l : Fin 6) (p s : Fin 64) (h : split l p s = true) (d : Fin 128) :
    mix q k L n l p d * mix q k L n l s d
      = q (n + p.val) d * k (n + s.val) d * Real.exp (acc (fun r => L r d) (n + p.val + 1) - acc (fun r => L r d) (n + s.val + 1)) := by
  obtain ⟨h1, h2, h3⟩ := split_bits l p s h
  have hw := sum_window (fun r => L r d) n (a := s.val + 1) (b := p.val + 1) (by omega) (by omega)
    (fun r => upTo l p r || upTo l s r) (fun r => by rw [Bool.or_eq_true]; exact (split_upTo l p s h r).1)
  have hs : (∑ r : Fin 64, (if upTo l p r then (1 : ℝ) else 0) * L (n + r.val) d)
      + (∑ r : Fin 64, (if upTo l s r then (1 : ℝ) else 0) * L (n + r.val) d)
      = acc (fun r => L r d) (n + (p.val + 1)) - acc (fun r => L r d) (n + (s.val + 1)) := by
    rw [← hw, ← Finset.sum_add_distrib]
    refine Finset.sum_congr rfl (fun r _ => ?_)
    have hn := (split_upTo l p s h r).2
    cases ha : upTo l p r <;> cases hb : upTo l s r <;> simp_all
  unfold mix
  rw [h1, h2, if_pos rfl, if_neg (by decide), mul_mul_mul_comm, ← Real.exp_add, hs]
  rfl

/-- The chunk's attention is the decayed attention, causal. -/
theorem attn_eq (p s : Fin 64) :
    attn q k L n p s = if s.val ≤ p.val then
      ∑ d, q (n + p.val) d * k (n + s.val) d * Real.exp (acc (fun r => L r d) (n + p.val + 1) - acc (fun r => L r d) (n + s.val + 1)) else 0 := by
  unfold attn
  rcases lt_trichotomy s.val p.val with h | h | h
  · obtain ⟨l, h1, h2⟩ := split_unique p s h
    rw [if_neg (fun e => by rw [e] at h; exact lt_irrefl _ h), mul_zero, zero_add, if_pos h.le,
      Finset.sum_eq_single l (fun l' _ hl => by rw [h2 l' hl]; simp) (fun hn => absurd (Finset.mem_univ l) hn), if_pos h1, mul_one]
    exact Finset.sum_congr rfl (fun d _ => mix_mul q k L n l p s h1 d)
  · have e : s = p := Fin.ext h
    subst e
    have hz : ∀ l : Fin 6, (∑ d, mix q k L n l s d * mix q k L n l s d) * (if split l s s then (1 : ℝ) else 0) = 0 := fun l => by
      rw [if_neg (fun hs => lt_irrefl _ (split_bits l s s hs).2.2), mul_zero]
    rw [if_pos rfl, mul_one, if_pos le_rfl, Finset.sum_congr rfl (fun l _ => hz l), Finset.sum_const_zero, add_zero]
    refine Finset.sum_congr rfl (fun d _ => ?_)
    rw [sub_self, Real.exp_zero, mul_one]
  · rw [if_neg (fun e => by rw [e] at h; exact lt_irrefl _ h), mul_zero, zero_add, if_neg (by omega), Finset.sum_eq_zero]
    intro l _
    rw [if_neg (fun hs => absurd (split_bits l p s hs).2.2 (by omega)), mul_zero]

/-- The state after a chunk. -/
theorem state_next (e d : Fin 128) (P : Fin 64 → Bool) (hP : ∀ r, P r = true) (Q : Fin 64 → Fin 64 → Bool)
    (hQ : ∀ s r, Q s r = true ↔ s.val < r.val) :
    state k v L (n + 64) e d
      = state k v L n e d * Real.exp (∑ r : Fin 64, (if P r then (1 : ℝ) else 0) * L (n + r.val) d)
        + ∑ s : Fin 64, v (n + s.val) e * (k (n + s.val) d * Real.exp (∑ r : Fin 64, (if Q s r then (1 : ℝ) else 0) * L (n + r.val) d)) := by
  have hp := sum_window (fun r => L r d) n (a := 0) (b := 64) (by omega) (by omega) P (fun r => by simp [hP r])
  have hq : ∀ s : Fin 64, ∑ r : Fin 64, (if Q s r then (1 : ℝ) else 0) * L (n + r.val) d
      = acc (fun r => L r d) (n + 64) - acc (fun r => L r d) (n + s.val + 1) := fun s => by
    rw [sum_window (fun r => L r d) n (a := s.val + 1) (b := 64) (by omega) (by omega) (Q s) (fun r => by rw [hQ]; omega)]
    rfl
  rw [hp, Finset.sum_congr rfl (fun s _ => by rw [hq s])]
  unfold state
  rw [Finset.sum_range_add, Finset.sum_mul, ← Fin.sum_univ_eq_sum_range
    (fun s => v (n + s) e * (k (n + s) d * Real.exp (acc (fun r => L r d) (n + 64) - acc (fun r => L r d) (n + s + 1)))) 64]
  congr 1
  refine Finset.sum_congr rfl (fun s _ => ?_)
  rw [mul_assoc, mul_assoc, ← Real.exp_add]
  congr 3
  rw [Nat.add_zero]; ring_nf

/-- The output of a chunk's row, from the chunk's attention and the state before the chunk. -/
theorem out_eq (p : Fin 64) (e : Fin 128) (P : Fin 64 → Bool) (hP : ∀ r, P r = true ↔ r.val ≤ p.val) :
    out q k v L (n + p.val) e
      = (∑ s : Fin 64, attn q k L n p s * v (n + s.val) e)
        + ∑ d, q (n + p.val) d * Real.exp (∑ r : Fin 64, (if P r then (1 : ℝ) else 0) * L (n + r.val) d) * state k v L n e d := by
  have hp : ∀ d : Fin 128, ∑ r : Fin 64, (if P r then (1 : ℝ) else 0) * L (n + r.val) d
      = acc (fun r => L r d) (n + p.val + 1) - acc (fun r => L r d) n := fun d => by
    rw [sum_window (fun r => L r d) n (a := 0) (b := p.val + 1) (by omega) (by omega) P (fun r => by rw [hP]; omega)]
    rfl
  simp only [hp]
  unfold out
  rw [show n + p.val + 1 = n + (p.val + 1) from rfl, Finset.sum_range_add, add_comm]
  congr 1
  · have hsub : range (p.val + 1) ⊆ range 64 := range_subset_range.2 (by omega)
    have hz := Fin.sum_univ_eq_sum_range (fun s : ℕ => if s ≤ p.val then
      (∑ d, q (n + p.val) d * k (n + s) d * Real.exp (acc (fun r => L r d) (n + p.val + 1) - acc (fun r => L r d) (n + s + 1))) * v (n + s) e else 0) 64
    have ha : ∀ s : Fin 64, attn q k L n p s * v (n + s.val) e = if s.val ≤ p.val then
      (∑ d, q (n + p.val) d * k (n + s.val) d * Real.exp (acc (fun r => L r d) (n + p.val + 1) - acc (fun r => L r d) (n + s.val + 1))) * v (n + s.val) e else 0 := by
      intro s; rw [attn_eq, ite_mul, zero_mul]
    rw [Finset.sum_congr rfl (fun s _ => ha s), hz, ← Finset.sum_filter]
    refine Finset.sum_congr ?_ (fun s _ => rfl)
    ext i; simp only [mem_filter, mem_range]; omega
  · unfold state
    simp only [Finset.mul_sum, Finset.sum_mul]
    rw [Finset.sum_comm]
    refine Finset.sum_congr rfl (fun d _ => Finset.sum_congr rfl (fun s _ => ?_))
    have : Real.exp (acc (fun r => L r d) (n + (p.val + 1)) - acc (fun r => L r d) (s + 1))
        = Real.exp (acc (fun r => L r d) (n + p.val + 1) - acc (fun r => L r d) n) * Real.exp (acc (fun r => L r d) n - acc (fun r => L r d) (s + 1)) := by
      rw [← Real.exp_add]; congr 1; rw [← Nat.add_assoc]; ring_nf
    rw [this]
    ring_nf
end

end Cert.Recur

end
-- ==== Proof.MixSpec.lean ====
/- The token mixer of one batch entry, as functions of the rows of its input, and which of its intermediate values are real numbers. -/
module

public import proofs.«01_k».proof.Proof.RowMath
public import proofs.«01_k».proof.Proof.MixReal
public import Idealize.ShloMosaic.Lib.IdealHost

@[expose] public section

set_option maxRecDepth 16384

noncomputable section

namespace Cert.Mixer

open Idealize.ShloMosaic Cert.RowMath

/-- The layer's epsilon. -/
def eps : EReal := Ideal.ofBits .f32 0x358637BD#32

/-- One row of the input projection of the normalised row. -/
def projRow (x ng : Fin 1024 → EReal) (win : Fin 1024 → Fin 3072 → EReal) (j : Fin 3072) : EReal := ∑ i : Fin 1024, normed x ng i * win i j

/-- The gated linear unit of a projected row. -/
def glu (z : Fin 3072 → EReal) (d : Fin 512) : EReal := z ⟨d.val, by omega⟩ * Ideal.logistic (z ⟨512 + d.val, by omega⟩)

/-- The gated linear unit of the rows, with thirty rows of zeros in front. -/
def halo (Z : ℕ → Fin 3072 → EReal) (n : ℕ) (d : Fin 512) : EReal := if 30 ≤ n then glu (Z (n - 30)) d else 0

/-- Thirty-one terms added from the left. -/
def taps (t : Fin 31 → EReal) : EReal :=
  t 0 + t 1 + t 2 + t 3 + t 4 + t 5 + t 6 + t 7 + t 8 + t 9 + t 10 + t 11 + t 12 + t 13 + t 14 + t 15 + t 16 + t 17 + t 18 + t 19 + t 20 + t 21
    + t 22 + t 23 + t 24 + t 25 + t 26 + t 27 + t 28 + t 29 + t 30

/-- The causal depthwise convolution at row `t`. -/
def convRow (Z : ℕ → Fin 3072 → EReal) (cw : Fin 31 → Fin 512 → EReal) (cb : Fin 512 → EReal) (t : ℕ) (d : Fin 512) : EReal :=
  taps (fun i => halo Z (i.val + t) d * cw i d) + cb d

/-- The mean over a column's group of 64. -/
def mean64 (y : Fin 512 → EReal) (d : Fin 512) : EReal :=
  Ideal.div (∑ k : Fin 64, y ⟨d.val / 64 * 64 + k.val, by omega⟩) (Ideal.ofBits .f32 0x42800000#32)

/-- The mean over a column's group of 128. -/
def mean128 (y : Fin 512 → EReal) (d : Fin 512) : EReal :=
  Ideal.div (∑ k : Fin 128, y ⟨d.val / 128 * 128 + k.val, by omega⟩) (Ideal.ofBits .f32 0x43000000#32)

/-- The deviation from the mean of the group. -/
def dev (y : Fin 512 → EReal) (d : Fin 512) : EReal := y d - mean64 y d

/-- Normalisation within groups of 64. -/
def groupNorm (y : Fin 512 → EReal) (d : Fin 512) : EReal := dev y d * Ideal.rsqrt (mean64 (fun e => dev y e * dev y e) d + eps)

/-- The product with the sigmoid. -/
def silu (z : EReal) : EReal := z * Ideal.logistic z

/-- The convolution branch of a row. -/
def yConv (y lng lnb : Fin 512 → EReal) (d : Fin 512) : EReal := silu (groupNorm y d * lng d + lnb d)

/-- The recurrence branch of a row. -/
def yRec (o rg g : Fin 512 → EReal) (d : Fin 512) : EReal :=
  o d * Ideal.rsqrt (mean128 (fun e => o e * o e) d + eps) * rg d * silu (g d)

/-- The first layer's share of the softmax of the lower bounds. -/
def share (l : Fin 2 → EReal) : EReal :=
  Ideal.div (Ideal.exp (l 0 - Finset.univ.fold max (Ideal.ofBits .f32 0xFF800000#32) l))
    (∑ x : Fin 2, Ideal.exp (l x - Finset.univ.fold max (Ideal.ofBits .f32 0xFF800000#32) l))

/-- The forget gate, bounded below. -/
def gate (l : Fin 2 → EReal) (z : EReal) : EReal := share l + (1 - share l) * Ideal.logistic z

/-- The queries, values, keys and log decays of head `h` as real numbers. -/
def qOf (Z : ℕ → Fin 3072 → EReal) (h : Fin 4) (n : ℕ) (d : Fin 128) : ℝ := (Z n ⟨1024 + (h.val * 128 + d.val), by omega⟩).toReal
def vOf (Z : ℕ → Fin 3072 → EReal) (h : Fin 4) (n : ℕ) (d : Fin 128) : ℝ := (Z n ⟨2048 + (h.val * 128 + d.val), by omega⟩).toReal
/-- The forget gate of a row and a column. -/
def fOf (lbl : Fin 2 → Fin 512 → EReal) (Z : ℕ → Fin 3072 → EReal) (n : ℕ) (d : Fin 512) : EReal :=
  gate (fun x => lbl x d) (Z n ⟨1536 + d.val, by omega⟩)
def kOf (lbl : Fin 2 → Fin 512 → EReal) (Z : ℕ → Fin 3072 → EReal) (h : Fin 4) (n : ℕ) (d : Fin 128) : ℝ :=
  (1 - fOf lbl Z n ⟨h.val * 128 + d.val, by omega⟩).toReal
def lOf (lbl : Fin 2 → Fin 512 → EReal) (Z : ℕ → Fin 3072 → EReal) (h : Fin 4) (n : ℕ) (d : Fin 128) : ℝ :=
  (Ideal.log (fOf lbl Z n ⟨h.val * 128 + d.val, by omega⟩)).toReal

/-- The recurrence's output of head `h`. -/
def oHead (lbl : Fin 2 → Fin 512 → EReal) (Z : ℕ → Fin 3072 → EReal) (n : ℕ) (h : Fin 4) (e : Fin 128) : EReal :=
  ((Recur.out (qOf Z h) (kOf lbl Z h) (vOf Z h) (lOf lbl Z h) n e : ℝ) : EReal)

/-- The recurrence's output of a row. -/
def oRow (lbl : Fin 2 → Fin 512 → EReal) (Z : ℕ → Fin 3072 → EReal) (n : ℕ) (d : Fin 512) : EReal :=
  oHead lbl Z n ⟨d.val / 128, by omega⟩ ⟨d.val % 128, by omega⟩

/-- The output projection and the residual. -/
def result (x : Fin 1024 → EReal) (yc yr : Fin 512 → EReal) (wout : Fin 1024 → Fin 1024 → EReal) (j : Fin 1024) : EReal :=
  x j + ∑ d : Fin 512, yc d * wout ⟨d.val, by omega⟩ j + ∑ d : Fin 512, yr d * wout ⟨512 + d.val, by omega⟩ j

/-- The projected rows of a batch entry. -/
def rows (X : Fin 4096 → Fin 1024 → EReal) (ng : Fin 1024 → EReal) (win : Fin 1024 → Fin 3072 → EReal) (n : ℕ) : Fin 3072 → EReal :=
  projRow (X ⟨n % 4096, Nat.mod_lt _ (by decide)⟩) ng win

/-- Row `n` of the mixer's output, from the row's input and the projected rows. -/
def outRow (x : Fin 1024 → EReal) (Z : ℕ → Fin 3072 → EReal) (cw : Fin 31 → Fin 512 → EReal) (cb lng lnb : Fin 512 → EReal)
    (lbl : Fin 2 → Fin 512 → EReal) (rg : Fin 512 → EReal) (wout : Fin 1024 → Fin 1024 → EReal) (n : ℕ) : Fin 1024 → EReal :=
  result x (yConv (convRow Z cw cb n) lng lnb) (yRec (oRow lbl Z n) rg (fun d => Z n ⟨2560 + d.val, by omega⟩)) wout

/-! ## What is real -/

/-- The epsilon is a positive real. -/
theorem eps_real : ∃ r : ℝ, 0 < r ∧ eps = (r : EReal) := by
  refine ⟨_, ?_, show eps = ((((8388608 + 407485 : ℕ) : ℝ) * (2 : ℝ) ^ (-43 : ℤ) : ℝ) : EReal) from ?_⟩
  · positivity
  · unfold eps
    simp [Ideal.ofBits, Ideal.ieee, -EReal.coe_mul]

/-- The word of 1024. -/
theorem bits1024 : Ideal.ofBits .f32 0x44800000#32 = ((1024 : ℝ) : EReal) := by
  simp [Ideal.ofBits, Ideal.ieee, -EReal.coe_mul]; norm_num

/-- The word of 64. -/
theorem bits64 : Ideal.ofBits .f32 0x42800000#32 = ((64 : ℝ) : EReal) := by
  simp [Ideal.ofBits, Ideal.ieee, -EReal.coe_mul]; norm_num

/-- The word of 128. -/
theorem bits128 : Ideal.ofBits .f32 0x43000000#32 = ((128 : ℝ) : EReal) := by
  simp [Ideal.ofBits, Ideal.ieee, -EReal.coe_mul]; norm_num

/-- The word of minus infinity. -/
theorem bitsBot : Ideal.ofBits .f32 0xFF800000#32 = ⊥ := by
  simp [Ideal.ofBits, Ideal.ieee]

/-- A finite sum of coerced reals is the coerced sum. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- A square is not negative. -/
theorem sq_nonneg' (x : EReal) : 0 ≤ x * x := by
  induction x using EReal.rec with
  | bot => rw [EReal.bot_mul_bot]; exact le_top
  | coe r => rw [← EReal.coe_mul]; exact EReal.coe_nonneg.2 (mul_self_nonneg r)
  | top => rw [EReal.top_mul_top]; exact le_top

/-- A normalised row is real, whatever the row. -/
theorem normed_real (f g : Fin 1024 → EReal) (hg : ∀ j, ∃ r : ℝ, g j = (r : EReal)) (j : Fin 1024) :
    ∃ r : ℝ, normed f g j = (r : EReal) := by
  obtain ⟨gr, hgr⟩ := hg j
  obtain ⟨ep, hep0, hep⟩ := eps_real
  unfold normed rmsScale
  rw [hgr, show Ideal.ofBits .f32 0x358637BD#32 = (ep : EReal) from hep, bits1024]
  by_cases h : ∀ k, ∃ r : ℝ, f k = (r : EReal)
  · choose r hr using h
    have hs : ∑ k, f k * f k = ((∑ k, r k * r k : ℝ) : EReal) := by
      rw [← coe_sum]; exact Finset.sum_congr rfl (fun k _ => by rw [hr k, EReal.coe_mul])
    have hp : 0 < (∑ k, r k * r k) * (1 / 1024) + ep :=
      add_pos_of_nonneg_of_pos (mul_nonneg (Finset.sum_nonneg (fun k _ => mul_self_nonneg _)) (by norm_num)) hep0
    rw [hs, Ideal.div_coe (by norm_num), ← EReal.coe_mul, ← EReal.coe_add, Ideal.rsqrt_coe, if_neg (not_lt.2 hp.le), if_neg hp.ne', hr j,
      ← EReal.coe_mul, ← EReal.coe_mul]
    exact ⟨_, rfl⟩
  · push Not at h
    obtain ⟨k, hk⟩ := h
    have hk2 : f k * f k = ⊤ := by
      revert hk
      induction f k using EReal.rec with
      | bot => intro _; exact EReal.bot_mul_bot
      | coe r => intro hk; exact absurd rfl (hk r)
      | top => intro _; exact EReal.top_mul_top
    have hs : ∑ k, f k * f k = ⊤ := top_le_iff.1 (hk2 ▸ Finset.single_le_sum (fun i _ => sq_nonneg' (f i)) (Finset.mem_univ k))
    rw [hs, Ideal.div_coe (by norm_num), EReal.top_mul_coe_of_pos (by norm_num), EReal.top_add_coe, Ideal.rsqrt_top, mul_zero, zero_mul]
    exact ⟨0, rfl⟩

/-- The projected rows are real when the gain and the weights are. -/
theorem projRow_real (x ng : Fin 1024 → EReal) (win : Fin 1024 → Fin 3072 → EReal) (hg : ∀ j, ∃ r : ℝ, ng j = (r : EReal))
    (hw : ∀ i j, ∃ r : ℝ, win i j = (r : EReal)) (j : Fin 3072) : ∃ r : ℝ, projRow x ng win j = (r : EReal) := by
  choose a ha using normed_real x ng hg
  choose b hb using hw
  refine ⟨∑ i, a i * b i j, ?_⟩
  unfold projRow
  rw [← coe_sum]
  exact Finset.sum_congr rfl (fun i _ => by rw [ha, hb, EReal.coe_mul])

/-- The share is a real between zero and one when the lower bounds are real. -/
theorem share_real (l : Fin 2 → EReal) (hl : ∀ x, ∃ r : ℝ, l x = (r : EReal)) : ∃ r : ℝ, 0 ≤ r ∧ r ≤ 1 ∧ share l = (r : EReal) := by
  unfold share
  have hm : ∀ x, l x ≤ Finset.univ.fold max (Ideal.ofBits .f32 0xFF800000#32) l := fun x =>
    (Finset.le_fold_max (l x)).2 (Or.inr ⟨x, Finset.mem_univ x, le_rfl⟩)
  have hm2 : Finset.univ.fold max (Ideal.ofBits .f32 0xFF800000#32) l ≤ max (l 0) (l 1) := by
    refine Finset.fold_max_le _ |>.2 ⟨by rw [bitsBot]; exact bot_le, fun x _ => ?_⟩
    fin_cases x
    · exact le_max_left _ _
    · exact le_max_right _ _
  obtain ⟨p, hp⟩ := hl 0
  obtain ⟨q, hq⟩ := hl 1
  have hM : Finset.univ.fold max (Ideal.ofBits .f32 0xFF800000#32) l = ((max p q : ℝ) : EReal) := by
    have e : ((max p q : ℝ) : EReal) = max (l 0) (l 1) := by
      rw [hp, hq]
      rcases le_total p q with h | h
      · rw [max_eq_right h, max_eq_right (EReal.coe_le_coe_iff.2 h)]
      · rw [max_eq_left h, max_eq_left (EReal.coe_le_coe_iff.2 h)]
    rw [e]
    exact le_antisymm hm2 (max_le (hm 0) (hm 1))
  rw [hM, Fin.sum_univ_two, hp, hq, ← EReal.coe_sub, ← EReal.coe_sub, Ideal.exp_coe, Ideal.exp_coe, ← EReal.coe_add]
  have ha := Real.exp_pos (p - max p q)
  have hb := Real.exp_pos (q - max p q)
  refine ⟨Real.exp (p - max p q) * (1 / (Real.exp (p - max p q) + Real.exp (q - max p q))), by positivity, ?_, ?_⟩
  · rw [mul_one_div, div_le_one (by positivity)]; linarith
  · rw [Ideal.div_coe (by positivity), EReal.coe_mul]

/-- The forget gate is a positive real. -/
theorem gate_real (l : Fin 2 → EReal) (hl : ∀ x, ∃ r : ℝ, l x = (r : EReal)) (z : ℝ) : ∃ r : ℝ, 0 < r ∧ gate l (z : EReal) = (r : EReal) := by
  obtain ⟨a, h0, h1, ha⟩ := share_real l hl
  have hs : 0 < (1 + Real.exp (-z))⁻¹ := inv_pos.2 (by positivity)
  refine ⟨a + (1 - a) * (1 + Real.exp (-z))⁻¹, ?_, ?_⟩
  · rcases h0.lt_or_eq with h | h
    · exact add_pos_of_pos_of_nonneg h (mul_nonneg (by linarith) hs.le)
    · rw [← h]; simpa using hs
  · unfold gate
    rw [ha, Ideal.logistic_coe, show (1 : EReal) = ((1 : ℝ) : EReal) from rfl, ← EReal.coe_sub, ← EReal.coe_mul, ← EReal.coe_add]

end Cert.Mixer

end
-- ==== Proof.Blk.lean ====
/- What one grid step of the kernel computes from the loaded tiles, row by row. -/
module

public import proofs.«01_k».proof.Proof.Gen.Kernel2Ideal.Skeleton
public import proofs.«01_k».proof.Proof.RowMath

@[expose] public section

set_option maxRecDepth 16384

noncomputable section

namespace Cert.Kernel2Ideal.Blk

open Cert.Kernel2Ideal Cert.Kernel2Ideal.Gen Idealize.ShloMosaic Cert.RowMath

/-- The normalised row of the block. -/
theorem pay2_apply (x : Vec Ideal S512x1024 .f32) (g : Vec Ideal S1x1024 .f32) (r : Fin 512) (j : Fin 1024) :
    k0_pay2 x g (ix2 r j) = normed (fun k => x (ix2 r k)) (fun k => g (ix2 0 k)) j := by
  pointwise [k0_pay2]
  rfl

/-- The residual after the first two slabs of the feed-forward. -/
theorem pay3_apply (v0 : Vec Ideal S512x1024 .f32) (v11 : Vec Ideal S1x1024 .f32) (v16 v23 v27 v34 : Vec Ideal S1024x1024 .bf16) (r : Fin 512) (j : Fin 1024) :
    k0_pay3 v0 v11 v16 v23 v27 v34 (ix2 r j) = v0 (ix2 r j)
      + slab (fun i => k0_pay2 v0 v11 (ix2 r i)) (fun i k => v16 (ix2 i k)) (fun k j => v23 (ix2 k j)) j
      + slab (fun i => k0_pay2 v0 v11 (ix2 r i)) (fun i k => v27 (ix2 i k)) (fun k j => v34 (ix2 k j)) j := by
  pointwise [k0_pay3]
  rfl

/-- The residual after two further slabs of the feed-forward. -/
theorem pay4_apply (v15 : Vec Ideal S512x1024 .bf16) (v37 : Vec Ideal S512x1024 .f32) (v38 v45 v49 v56 : Vec Ideal S1024x1024 .bf16) (r : Fin 512) (j : Fin 1024) :
    k0_pay4 v15 v37 v38 v45 v49 v56 (ix2 r j) = v37 (ix2 r j)
      + slab (fun i => v15 (ix2 r i)) (fun i k => v38 (ix2 i k)) (fun k j => v45 (ix2 k j)) j
      + slab (fun i => v15 (ix2 r i)) (fun i k => v49 (ix2 i k)) (fun k j => v56 (ix2 k j)) j := by
  pointwise [k0_pay4]
  rfl

/-- The per-layer embedding, scaled by the root mean square of its row. -/
theorem pay5_apply (x : Vec Ideal S512x256 .f32) (w : Vec Ideal S256x1024 .bf16) (r : Fin 512) (j : Fin 1024) :
    k0_pay5 x w (ix2 r j) = (fun (e : Fin 1024 → EReal) => e j * rmsScale e) (fun j => ∑ i : Fin 256, x (ix2 r i) * w (ix2 i j)) := by
  pointwise [k0_pay5]
  rfl

/-- The stored row: the gated embedding is added and the result is normalised. -/
theorem pay1_apply (a e : Vec Ideal S512x1024 .f32) (g : Vec Ideal S1x1024 .f32) (w : Vec Ideal S1024x1024 .bf16) (fg : Vec Ideal S1x1024 .f32) (r : Fin 512) (j : Fin 1024) :
    k0_pay1 a e g w fg (ix2 r j) = normed (fun j => a (ix2 r j) + e (ix2 r j) * g (ix2 0 j) * Ideal.logistic (∑ i : Fin 1024, a (ix2 r i) * w (ix2 i j)))
      (fun j => fg (ix2 0 j)) j := by
  pointwise [k0_pay1]
  rfl

/-- All values of a block together: row `r` of what is stored is the channel mixer of row `r` of what was loaded. -/
theorem block_apply (x : Vec Ideal S512x1024 .f32) (ng : Vec Ideal S1x1024 .f32) (u0 d0 u1 d1 u2 d2 u3 d3 : Vec Ideal S1024x1024 .bf16)
    (p : Vec Ideal S512x256 .f32) (w : Vec Ideal S256x1024 .bf16) (pg : Vec Ideal S1x1024 .f32) (gw : Vec Ideal S1024x1024 .bf16) (fg : Vec Ideal S1x1024 .f32)
    (up : Fin 1024 → Fin 4096 → EReal) (down : Fin 4096 → Fin 1024 → EReal)
    (hu0 : ∀ i (k : Fin 1024), u0 (ix2 i k) = up i ⟨k.val, by omega⟩) (hd0 : ∀ (k : Fin 1024) j, d0 (ix2 k j) = down ⟨k.val, by omega⟩ j)
    (hu1 : ∀ i (k : Fin 1024), u1 (ix2 i k) = up i ⟨1024 + k.val, by omega⟩) (hd1 : ∀ (k : Fin 1024) j, d1 (ix2 k j) = down ⟨1024 + k.val, by omega⟩ j)
    (hu2 : ∀ i (k : Fin 1024), u2 (ix2 i k) = up i ⟨2048 + k.val, by omega⟩) (hd2 : ∀ (k : Fin 1024) j, d2 (ix2 k j) = down ⟨2048 + k.val, by omega⟩ j)
    (hu3 : ∀ i (k : Fin 1024), u3 (ix2 i k) = up i ⟨3072 + k.val, by omega⟩) (hd3 : ∀ (k : Fin 1024) j, d3 (ix2 k j) = down ⟨3072 + k.val, by omega⟩ j)
    (r : Fin 512) (j : Fin 1024) :
    k0_pay1 (F := Ideal) (k0_pay4 (k0_pay2 x ng) (k0_pay3 x ng u0 d0 u1 d1) u2 d2 u3 d3) (k0_pay5 p w) pg gw fg (ix2 r j)
      = channel (fun k => x (ix2 r k)) (fun k => p (ix2 r k)) (fun k => ng (ix2 0 k)) up down (fun i k => w (ix2 i k)) (fun k => pg (ix2 0 k))
          (fun i k => gw (ix2 i k)) (fun k => fg (ix2 0 k)) j := by
  have ha : ∀ j, k0_pay4 (F := Ideal) (k0_pay2 x ng) (k0_pay3 x ng u0 d0 u1 d1) u2 d2 u3 d3 (ix2 r j)
      = mlp (fun k => x (ix2 r k)) (fun k => ng (ix2 0 k)) up down j := by
    intro j
    rw [← mlp_eq_slabs, pay4_apply, pay3_apply]
    simp only [pay2_apply, hu0, hd0, hu1, hd1, hu2, hd2, hu3, hd3]
  rw [pay1_apply]
  simp only [ha, pay5_apply]
  rfl

end Cert.Kernel2Ideal.Blk

end
-- ==== Proof.KernelValue.lean ====
/- The kernel's result array after a run: every row is the channel mixer of the arguments' row. -/
module

public import proofs.«01_k».proof.Proof.Gen.Kernel2Ideal.Value
public import proofs.«01_k».proof.Proof.Blk
public import Idealize.ShloMosaic.Lib.StableHlo.Run

@[expose] public section

set_option maxRecDepth 16384

noncomputable section

namespace Cert.Kernel2Ideal.Chan

open Cert.Kernel2Ideal Cert.Kernel2Ideal.Gen Idealize.ShloMosaic Idealize.ShloMosaic.TcCoe Idealize.SL.Sem Cert.RowMath Cert.Kernel2Ideal.Blk

/-- What one grid step leaves in the result's tile, as a function of the tile's index. -/
def tile (x0 : Vec Ideal S512x1024 .f32) (x1 : Vec Ideal S512x256 .f32) (x2 : Vec Ideal S1x1024 .f32) (x3 : Vec Ideal S1024x4096 .bf16)
    (x4 : Vec Ideal S4096x1024 .bf16) (x5 : Vec Ideal S256x1024 .bf16) (x6 : Vec Ideal S1x1024 .f32) (x7 : Vec Ideal S1024x1024 .bf16)
    (x8 : Vec Ideal S1x1024 .f32) : Vec Ideal S512x1024 .f32 := fun y =>
  channel (fun k => x0 (ix2 (y 0) k)) (fun k => x1 (ix2 (y 0) k)) (fun k => x2 (ix2 0 k)) (fun i k => x3 (ix2 i k)) (fun k j => x4 (ix2 k j))
    (fun i k => x5 (ix2 i k)) (fun k => x6 (ix2 0 k)) (fun i k => x7 (ix2 i k)) (fun k => x8 (ix2 0 k)) (y 1)

/-- The block that a grid point stores, as a function of the blocks it loads. -/
theorem out_eq (x0 : Vec Ideal S512x1024 .f32) (x1 : Vec Ideal S512x256 .f32) (x2 : Vec Ideal S1x1024 .f32) (x3 : Vec Ideal S1024x4096 .bf16)
    (x4 : Vec Ideal S4096x1024 .bf16) (x5 : Vec Ideal S256x1024 .bf16) (x6 : Vec Ideal S1x1024 .f32) (x7 : Vec Ideal S1024x1024 .bf16)
    (x8 : Vec Ideal S1x1024 .f32) :
    out0_9 (F := Ideal) x0 x1 x2 x3 x4 x5 x6 x7 x8 = tile x0 x1 x2 x3 x4 x5 x6 x7 x8 := by
  funext y
  unfold out0_9
  refine View.canon_apply_of_pieces (tile x0 x1 x2 x3 x4 x5 x6 x7 x8) _ (fun p hp z => ?_) y (cover0_9 _ y)
  simp only [List.mem_cons, List.mem_nil_iff, or_false] at hp
  rcases hp with rfl
  idx_vars z
  rw [block_apply _ _ _ _ _ _ _ _ _ _ _ _ _ _ _ (fun i k => x3 (ix2 i k)) (fun k j => x4 (ix2 k j))]
  all_goals try (intros; pointwise)
  have e0 : (r0_0.emb (ix2 z0 z1)) 0 = (⟨z0.val, by omega⟩ : Fin 512) :=
    Fin.ext (by show 0 + 1 * z0.val = z0.val; omega)
  have e1 : (r0_0.emb (ix2 z0 z1)) 1 = (z1 : Fin 1024) := Fin.ext (by show 0 + 1 * z1.val = z1.val; omega)
  unfold tile
  rw [e0, e1]

/-! ## The arrays the grid reads, from the arguments -/

variable (m : (ℓ : Loc nD τ sig) → Buf (Elt Ideal) ℓ) (ρ : Dev nD → PrngReg)

/-- The arguments of core `c`. -/
abbrev arg0 (c : Dev nD) : Vec Ideal S32768x1024 .f32 := m ((c : Thread nD τ).loc main_arg0)
abbrev arg1 (c : Dev nD) : Vec Ideal S32768x256 .f32 := m ((c : Thread nD τ).loc main_arg1)
abbrev arg2 (c : Dev nD) : Vec Ideal S1024 .f32 := m ((c : Thread nD τ).loc main_arg2)
abbrev arg3 (c : Dev nD) : Vec Ideal S1024x4096 .f32 := m ((c : Thread nD τ).loc main_arg3)
abbrev arg4 (c : Dev nD) : Vec Ideal S4096x1024 .f32 := m ((c : Thread nD τ).loc main_arg4)
abbrev arg5 (c : Dev nD) : Vec Ideal S256x1024 .f32 := m ((c : Thread nD τ).loc main_arg5)
abbrev arg6 (c : Dev nD) : Vec Ideal S1024 .f32 := m ((c : Thread nD τ).loc main_arg6)
abbrev arg7 (c : Dev nD) : Vec Ideal S1024x1024 .f32 := m ((c : Thread nD τ).loc main_arg7)
abbrev arg8 (c : Dev nD) : Vec Ideal S1024 .f32 := m ((c : Thread nD τ).loc main_arg8)

/-- The first gain as a single row, before the launch. -/
theorem V_main_v0 (c : Dev nD) (j : Fin 1024) : (V m c main_v0 : Vec Ideal S1x1024 .f32) (ix2 0 j) = arg2 m c (ix1 j) := by
  have e : (V m c main_v0 : Vec Ideal S1x1024 .f32) = shapeCast S1x1024 (arg2 m c) shapeCasts_S1024_S1x1024 := by
    unfold V; after_results; rfl
  rw [e]; pointwise

/-- The embedding gain as a single row, before the launch. -/
theorem V_main_v4 (c : Dev nD) (j : Fin 1024) : (V m c main_v4 : Vec Ideal S1x1024 .f32) (ix2 0 j) = arg6 m c (ix1 j) := by
  have e : (V m c main_v4 : Vec Ideal S1x1024 .f32) = shapeCast S1x1024 (arg6 m c) shapeCasts_S1024_S1x1024 := by
    unfold V; after_results; rfl
  rw [e]; pointwise

/-- The final gain as a single row, before the launch. -/
theorem V_main_v6 (c : Dev nD) (j : Fin 1024) : (V m c main_v6 : Vec Ideal S1x1024 .f32) (ix2 0 j) = arg8 m c (ix1 j) := by
  have e : (V m c main_v6 : Vec Ideal S1x1024 .f32) = shapeCast S1x1024 (arg8 m c) shapeCasts_S1024_S1x1024 := by
    unfold V; after_results; rfl
  rw [e]; pointwise

/-- The rounded upward weights are the upward weights over the reals. -/
theorem V_main_v1 (c : Dev nD) : (V m c main_v1 : S1024x4096.Idx → EReal) = arg3 m c := by
  unfold V; after_results; rfl
/-- The rounded downward weights are the downward weights over the reals. -/
theorem V_main_v2 (c : Dev nD) : (V m c main_v2 : S4096x1024.Idx → EReal) = arg4 m c := by
  unfold V; after_results; rfl
/-- The rounded embedding weights are the embedding weights over the reals. -/
theorem V_main_v3 (c : Dev nD) : (V m c main_v3 : S256x1024.Idx → EReal) = arg5 m c := by
  unfold V; after_results; rfl
/-- The rounded gate weights are the gate weights over the reals. -/
theorem V_main_v5 (c : Dev nD) : (V m c main_v5 : S1024x1024.Idx → EReal) = arg7 m c := by
  unfold V; after_results; rfl

/-- The block index of the windows over the rows is the grid point; every other window stays at its only block. -/
theorem index_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0) :=
  (by decide +kernel : ∀ t : Fin grid0.N, _)

/-- Window 0's block at a grid point, read off the argument it stages. -/
theorem iblk0 (c : Dev nD) (t : Fin cfg0.N) (ht : t.val < 64) (r : Fin 512) (j : Fin 1024) :
    (iblk m c 0 t : Vec Ideal S512x1024 .f32) (ix2 r j) = arg0 m c (ix2 ⟨t.val * 512 + r.val, by omega⟩ j) := by
  obtain ⟨h0, h1, h2, h3, h4, h5, h6, h7, h8, h9⟩ := index_facts t
  unfold iblk
  rw [View.read_apply]
  show V m c main_arg0 _ = _
  rw [V_main_arg0]
  refine congrArg (arg0 m c) ?_
  funext a
  apply Fin.ext
  match a with
  | ⟨0, _⟩ => show win0_0.index t 0 * 512 + 1 * r.val = t.val * 512 + r.val; rw [h0.1]; omega
  | ⟨1, _⟩ => show win0_0.index t 1 * 1024 + 1 * j.val = j.val; rw [h0.2]; omega

/-- Window 1's block at a grid point, read off the argument it stages. -/
theorem iblk1 (c : Dev nD) (t : Fin cfg0.N) (ht : t.val < 64) (r : Fin 512) (j : Fin 256) :
    (iblk m c 1 t : Vec Ideal S512x256 .f32) (ix2 r j) = arg1 m c (ix2 ⟨t.val * 512 + r.val, by omega⟩ j) := by
  obtain ⟨h0, h1, h2, h3, h4, h5, h6, h7, h8, h9⟩ := index_facts t
  unfold iblk
  rw [View.read_apply]
  show V m c main_arg1 _ = _
  rw [V_main_arg1]
  refine congrArg (arg1 m c) ?_
  funext a
  apply Fin.ext
  match a with
  | ⟨0, _⟩ => show win0_1.index t 0 * 512 + 1 * r.val = t.val * 512 + r.val; rw [h1.1]; omega
  | ⟨1, _⟩ => show win0_1.index t 1 * 256 + 1 * j.val = j.val; rw [h1.2]; omega

/-- Window 2's block at a grid point, read off the argument it stages. -/
theorem iblk2 (c : Dev nD) (t : Fin cfg0.N) (j : Fin 1024) :
    (iblk m c 2 t : Vec Ideal S1x1024 .f32) (ix2 0 j) = arg2 m c (ix1 j) := by
  obtain ⟨h0, h1, h2, h3, h4, h5, h6, h7, h8, h9⟩ := index_facts t
  rw [← V_main_v0]
  unfold iblk
  rw [View.read_apply]
  show V m c main_v0 _ = _
  refine congrArg (V m c main_v0) ?_
  funext a
  apply Fin.ext
  match a with
  | ⟨0, _⟩ => show win0_2.index t 0 * 1 + 1 * 0 = 0; rw [h2.1]
  | ⟨1, _⟩ => show win0_2.index t 1 * 1024 + 1 * j.val = j.val; rw [h2.2]; omega

/-- Window 6's block at a grid point, read off the argument it stages. -/
theorem iblk6 (c : Dev nD) (t : Fin cfg0.N) (j : Fin 1024) :
    (iblk m c 6 t : Vec Ideal S1x1024 .f32) (ix2 0 j) = arg6 m c (ix1 j) := by
  obtain ⟨h0, h1, h2, h3, h4, h5, h6, h7, h8, h9⟩ := index_facts t
  rw [← V_main_v4]
  unfold iblk
  rw [View.read_apply]
  show V m c main_v4 _ = _
  refine congrArg (V m c main_v4) ?_
  funext a
  apply Fin.ext
  match a with
  | ⟨0, _⟩ => show win0_6.index t 0 * 1 + 1 * 0 = 0; rw [h6.1]
  | ⟨1, _⟩ => show win0_6.index t 1 * 1024 + 1 * j.val = j.val; rw [h6.2]; omega

/-- Window 8's block at a grid point, read off the argument it stages. -/
theorem iblk8 (c : Dev nD) (t : Fin cfg0.N) (j : Fin 1024) :
    (iblk m c 8 t : Vec Ideal S1x1024 .f32) (ix2 0 j) = arg8 m c (ix1 j) := by
  obtain ⟨h0, h1, h2, h3, h4, h5, h6, h7, h8, h9⟩ := index_facts t
  rw [← V_main_v6]
  unfold iblk
  rw [View.read_apply]
  show V m c main_v6 _ = _
  refine congrArg (V m c main_v6) ?_
  funext a
  apply Fin.ext
  match a with
  | ⟨0, _⟩ => show win0_8.index t 0 * 1 + 1 * 0 = 0; rw [h8.1]
  | ⟨1, _⟩ => show win0_8.index t 1 * 1024 + 1 * j.val = j.val; rw [h8.2]; omega

/-- Window 3's block at a grid point, read off the argument it stages. -/
theorem iblk3 (c : Dev nD) (t : Fin cfg0.N) (r : Fin 1024) (j : Fin 4096) :
    (iblk m c 3 t : Vec Ideal S1024x4096 .bf16) (ix2 r j) = arg3 m c (ix2 r j) := by
  obtain ⟨h0, h1, h2, h3, h4, h5, h6, h7, h8, h9⟩ := index_facts t
  unfold iblk
  rw [View.read_apply]
  show V m c main_v1 _ = _
  refine (congrFun (V_main_v1 m c) _).trans ?_
  refine congrArg (arg3 m c) ?_
  funext a
  apply Fin.ext
  match a with
  | ⟨0, _⟩ => show win0_3.index t 0 * 1024 + 1 * r.val = r.val; rw [h3.1]; omega
  | ⟨1, _⟩ => show win0_3.index t 1 * 4096 + 1 * j.val = j.val; rw [h3.2]; omega

/-- Window 4's block at a grid point, read off the argument it stages. -/
theorem iblk4 (c : Dev nD) (t : Fin cfg0.N) (r : Fin 4096) (j : Fin 1024) :
    (iblk m c 4 t : Vec Ideal S4096x1024 .bf16) (ix2 r j) = arg4 m c (ix2 r j) := by
  obtain ⟨h0, h1, h2, h3, h4, h5, h6, h7, h8, h9⟩ := index_facts t
  unfold iblk
  rw [View.read_apply]
  show V m c main_v2 _ = _
  refine (congrFun (V_main_v2 m c) _).trans ?_
  refine congrArg (arg4 m c) ?_
  funext a
  apply Fin.ext
  match a with
  | ⟨0, _⟩ => show win0_4.index t 0 * 4096 + 1 * r.val = r.val; rw [h4.1]; omega
  | ⟨1, _⟩ => show win0_4.index t 1 * 1024 + 1 * j.val = j.val; rw [h4.2]; omega

/-- Window 5's block at a grid point, read off the argument it stages. -/
theorem iblk5 (c : Dev nD) (t : Fin cfg0.N) (r : Fin 256) (j : Fin 1024) :
    (iblk m c 5 t : Vec Ideal S256x1024 .bf16) (ix2 r j) = arg5 m c (ix2 r j) := by
  obtain ⟨h0, h1, h2, h3, h4, h5, h6, h7, h8, h9⟩ := index_facts t
  unfold iblk
  rw [View.read_apply]
  show V m c main_v3 _ = _
  refine (congrFun (V_main_v3 m c) _).trans ?_
  refine congrArg (arg5 m c) ?_
  funext a
  apply Fin.ext
  match a with
  | ⟨0, _⟩ => show win0_5.index t 0 * 256 + 1 * r.val = r.val; rw [h5.1]; omega
  | ⟨1, _⟩ => show win0_5.index t 1 * 1024 + 1 * j.val = j.val; rw [h5.2]; omega

/-- Window 7's block at a grid point, read off the argument it stages. -/
theorem iblk7 (c : Dev nD) (t : Fin cfg0.N) (r : Fin 1024) (j : Fin 1024) :
    (iblk m c 7 t : Vec Ideal S1024x1024 .bf16) (ix2 r j) = arg7 m c (ix2 r j) := by
  obtain ⟨h0, h1, h2, h3, h4, h5, h6, h7, h8, h9⟩ := index_facts t
  unfold iblk
  rw [View.read_apply]
  show V m c main_v5 _ = _
  refine (congrFun (V_main_v5 m c) _).trans ?_
  refine congrArg (arg7 m c) ?_
  funext a
  apply Fin.ext
  match a with
  | ⟨0, _⟩ => show win0_7.index t 0 * 1024 + 1 * r.val = r.val; rw [h7.1]; omega
  | ⟨1, _⟩ => show win0_7.index t 1 * 1024 + 1 * j.val = j.val; rw [h7.2]; omega

/-- What the result array is shown to hold: every row is the channel mixer of the arguments' row. -/
def G (c : Dev nD) : Buf (Elt Ideal) ((c : Thread nD τ).loc main_v7) := fun i : S32768x1024.Idx =>
  channel (fun k => arg0 m c (ix2 (i 0) k)) (fun k => arg1 m c (ix2 (i 0) k)) (fun k => arg2 m c (ix1 k)) (fun i k => arg3 m c (ix2 i k))
    (fun k j => arg4 m c (ix2 k j)) (fun i k => arg5 m c (ix2 i k)) (fun k => arg6 m c (ix1 k)) (fun i k => arg7 m c (ix2 i k))
    (fun k => arg8 m c (ix1 k)) (i 1)

/-- What a grid point writes back is its block of `G`. -/
theorem flushed_eq (c : Dev nD) (t : Fin cfg0.N) : (dats m 0 c).flushed 9 t = (win0_9.blk t).view.read (Elt Ideal) (G m c) := by
  have ht : t.val < 64 := lt_of_lt_of_eq t.isLt N_0
  obtain ⟨h0, h1, h2, h3, h4, h5, h6, h7, h8, h9⟩ := index_facts t
  rw [Value.flushed9, out_eq]
  funext (y : S512x1024.Idx)
  have hG : (win0_9.blk t).view.read (Elt Ideal) (G m c) y = G m c (ix2 ⟨t.val * 512 + (y 0).val, by have hy : (y 0).val < 512 := (y 0).isLt; omega⟩ (y 1)) := by
    rw [View.read_apply]
    refine congrArg (G m c) ?_
    funext a
    apply Fin.ext
    match a with
    | ⟨0, _⟩ => show win0_9.index t 0 * 512 + 1 * (y 0).val = t.val * 512 + (y 0).val; rw [h9.1]; omega
    | ⟨1, _⟩ => show win0_9.index t 1 * 1024 + 1 * (y 1).val = (y 1).val; rw [h9.2]; omega
  rw [hG]
  show tile (iblk m c 0 t) (iblk m c 1 t) (iblk m c 2 t) (iblk m c 3 t) (iblk m c 4 t) (iblk m c 5 t) (iblk m c 6 t) (iblk m c 7 t) (iblk m c 8 t) y = _
  unfold tile G
  have e0 : ∀ k : Fin 1024, (iblk m c 0 t : Vec Ideal S512x1024 .f32) (ix2 (y 0) k) = _ := fun k => iblk0 m c t ht (y 0) k
  have e1 : ∀ k : Fin 256, (iblk m c 1 t : Vec Ideal S512x256 .f32) (ix2 (y 0) k) = _ := fun k => iblk1 m c t ht (y 0) k
  simp only [e0, e1, iblk2, iblk3, iblk4, iblk5, iblk6, iblk7, iblk8]
  rfl

/-- An index of the result is in point `t`'s block exactly when its row is one of the block's 512 rows. -/
theorem mem_blk (t : Fin cfg0.N) (i : S32768x1024.Idx) :
    i ∈ ((cfg0.win 9).blk t).view.set ↔ t.val * 512 ≤ (i 0 : Nat) ∧ (i 0 : Nat) < t.val * 512 + 512 := by
  show i ∈ ((View.whole main_v7).slice (win0_9.rect t)).set ↔ _
  rw [View.set_slice_whole, Rect.mem_set_unit]
  obtain ⟨-, -, -, -, -, -, -, -, -, h9⟩ := index_facts t
  have b1 : (i 1 : Nat) < 1024 := (i 1).isLt
  refine ⟨fun h => ?_, fun h a => ?_⟩
  · have h' : win0_9.index t 0 * 512 ≤ (i 0 : Nat) ∧ (i 0 : Nat) < win0_9.index t 0 * 512 + 512 := h 0
    rw [h9.1] at h'; exact h'
  · match a with
    | ⟨0, _⟩ => show win0_9.index t 0 * 512 ≤ (i 0 : Nat) ∧ (i 0 : Nat) < win0_9.index t 0 * 512 + 512; rw [h9.1]; exact h
    | ⟨1, _⟩ => show win0_9.index t 1 * 1024 ≤ (i 1 : Nat) ∧ (i 1 : Nat) < win0_9.index t 1 * 1024 + 1024
                rw [h9.2, Nat.zero_mul, Nat.zero_add]; exact ⟨Nat.zero_le _, b1⟩

/-- The 64 blocks of rows fill the result array. -/
theorem cover (i : S32768x1024.Idx) : ∃ t : Fin cfg0.N, (cfg0.win 9).flush t = true ∧ i ∈ ((cfg0.win 9).blk t).view.set := by
  have b0 : (i 0 : Nat) < 32768 := (i 0).isLt
  refine ⟨⟨(i 0 : Nat) / 512, by show _ < grid0.N; rw [N_0]; omega⟩, flush0_9 _, ?_⟩
  rw [mem_blk]
  dsimp only
  omega

/-- The result array after the run. -/
theorem final (c : Dev nD) : (dats m 0 c).arrAt 9 cfg0.N = G m c :=
  (dats m 0 c).arrAt_eq_of_cover 9 (G m c) (fun t _ => flushed_eq m c t) cover

end Cert.Kernel2Ideal.Chan

end
-- ==== Proof.RefValue.lean ====
/- What the reference computes, row by row. -/
module

public import proofs.«01_k».proof.Proof.Gen.Reference2Ideal.Run
public import proofs.«01_k».proof.Proof.Gen.Reference2Ideal.Read
public import proofs.«01_k».proof.Proof.RowMath
public import Idealize.ShloMosaic.Lib.Pointwise

@[expose] public section

set_option maxRecDepth 16384

noncomputable section

namespace Cert.Reference2Ideal.RefValue

open Cert.Reference2Ideal Cert.Reference2Ideal.Read Idealize.ShloMosaic Cert.RowMath

/-- The first normalisation of the reference at one entry. -/
theorem v12_apply (x0 : Vec Ideal S32768x1024 .f32) (x2 : Vec Ideal S1024 .f32) (r : Fin 32768) (j : Fin 1024) :
    val_main_v12 (F := Ideal) x0 x2 (ix2 r j) = normed (fun k => x0 (ix2 r k)) (fun k => x2 (ix1 k)) j := by
  pointwise [val_main_v12, val_main_v9, val_main_v11, val_main_v8, val_main_v10, val_main_v7, val_main_v6, val_main_v5, val_main_v4, val_main_v3, val_main_v2, val_main_v1, val_main_v0, val_main_cst, val_main_cst_0, val_main_cst_1]
  rfl

/-- The feed-forward of the reference at one entry. -/
theorem v17_apply (x0 : Vec Ideal S32768x1024 .f32) (x2 : Vec Ideal S1024 .f32) (x3 : Vec Ideal S1024x4096 .f32) (x4 : Vec Ideal S4096x1024 .f32)
    (r : Fin 32768) (j : Fin 1024) :
    val_main_v17 (F := Ideal) x0 x2 x3 x4 (ix2 r j)
      = mlp (fun k => x0 (ix2 r k)) (fun k => x2 (ix1 k)) (fun i k => x3 (ix2 i k)) (fun k j => x4 (ix2 k j)) j := by
  pointwise [val_main_v17, val_main_v16, val_main_v15, val_main_v14, val_main_v13, val_main_call0_v0, val_main_call0_cst]
  simp only [v12_apply]
  rfl

/-- The normalised embedding of the reference at one entry. -/
theorem v31_apply (x1 : Vec Ideal S32768x256 .f32) (x5 : Vec Ideal S256x1024 .f32) (x6 : Vec Ideal S1024 .f32) (r : Fin 32768) (j : Fin 1024) :
    val_main_v31 (F := Ideal) x1 x5 x6 (ix2 r j)
      = normed (fun j => ∑ i : Fin 256, x1 (ix2 r i) * x5 (ix2 i j)) (fun k => x6 (ix1 k)) j := by
  pointwise [val_main_v31, val_main_v30, val_main_v29, val_main_v28, val_main_v27, val_main_v26, val_main_v25, val_main_v24, val_main_v23, val_main_v22,
    val_main_v21, val_main_v20, val_main_v19, val_main_v18, val_main_cst_2, val_main_cst_3, val_main_cst_4]
  rfl

/-- The gated sum of the reference at one entry. -/
theorem v38_apply (x0 : Vec Ideal S32768x1024 .f32) (x2 : Vec Ideal S1024 .f32) (x3 : Vec Ideal S1024x4096 .f32) (x4 : Vec Ideal S4096x1024 .f32)
    (x7 : Vec Ideal S1024x1024 .f32) (r : Fin 32768) (j : Fin 1024) :
    val_main_v38 (F := Ideal) x0 x2 x3 x4 x7 (ix2 r j)
      = Ideal.logistic (∑ i : Fin 1024, val_main_v17 (F := Ideal) x0 x2 x3 x4 (ix2 r i) * x7 (ix2 i j)) := by
  pointwise [val_main_v38, val_main_v37, val_main_v36, val_main_v35, val_main_v34, val_main_v33, val_main_v32, val_main_cst_5, val_main_cst_6]
  rfl

/-- The result of the reference at one entry: the channel mixer of the row. -/
theorem v53_apply (x0 : Vec Ideal S32768x1024 .f32) (x1 : Vec Ideal S32768x256 .f32) (x2 : Vec Ideal S1024 .f32) (x3 : Vec Ideal S1024x4096 .f32) (x4 : Vec Ideal S4096x1024 .f32)
    (x5 : Vec Ideal S256x1024 .f32) (x6 : Vec Ideal S1024 .f32) (x7 : Vec Ideal S1024x1024 .f32) (x8 : Vec Ideal S1024 .f32) (r : Fin 32768) (j : Fin 1024) :
    val_main_v53 (F := Ideal) x0 x1 x2 x3 x4 x5 x6 x7 x8 (ix2 r j)
      = channel (fun k => x0 (ix2 r k)) (fun k => x1 (ix2 r k)) (fun k => x2 (ix1 k)) (fun i k => x3 (ix2 i k)) (fun k j => x4 (ix2 k j))
          (fun i k => x5 (ix2 i k)) (fun k => x6 (ix1 k)) (fun i k => x7 (ix2 i k)) (fun k => x8 (ix1 k)) j := by
  have h40 : ∀ j, val_main_v40 (F := Ideal) x0 x1 x2 x3 x4 x5 x6 x7 (ix2 r j)
      = gated (mlp (fun k => x0 (ix2 r k)) (fun k => x2 (ix1 k)) (fun i k => x3 (ix2 i k)) (fun k j => x4 (ix2 k j)))
        (fun j => ∑ i : Fin 256, x1 (ix2 r i) * x5 (ix2 i j)) (fun k => x6 (ix1 k)) (fun i k => x7 (ix2 i k)) j := by
    intro j
    pointwise [val_main_v40, val_main_v39]
    simp only [v38_apply, v31_apply, v17_apply]
    rfl
  pointwise [val_main_v53, val_main_v52, val_main_v51, val_main_v50, val_main_v49, val_main_v48, val_main_v47, val_main_v46, val_main_v45, val_main_v44,
    val_main_v43, val_main_v42, val_main_v41, val_main_cst_7, val_main_cst_8, val_main_cst_9]
  simp only [h40]
  rfl

end Cert.Reference2Ideal.RefValue

end
-- ==== Proof.lean ====
/- The proof. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.MixLaunchBits
public import proofs.«01_k».proof.Proof.MixLaunchIdeal
public import proofs.«01_k».proof.Proof.MixSpec
public import proofs.«01_k».proof.Proof.KernelValue
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- Over the reals, the channel kernel's result array and its reference's are the same function of the arguments. -/
theorem values_agree (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v53 (F := Ideal) (Cert.Kernel2Ideal.Chan.arg0 m c) (Cert.Kernel2Ideal.Chan.arg1 m c) (Cert.Kernel2Ideal.Chan.arg2 m c)
      (Cert.Kernel2Ideal.Chan.arg3 m c) (Cert.Kernel2Ideal.Chan.arg4 m c) (Cert.Kernel2Ideal.Chan.arg5 m c) (Cert.Kernel2Ideal.Chan.arg6 m c)
      (Cert.Kernel2Ideal.Chan.arg7 m c) (Cert.Kernel2Ideal.Chan.arg8 m c) = Cert.Kernel2Ideal.Chan.G m c := by
  funext i
  idx_vars i
  rw [Cert.Reference2Ideal.RefValue.v53_apply]
  rfl

/-- The frames of the six programs, the two preservations (nothing was rewritten), and the equality of the channel's results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m ρ _ => Cert.Kernel.Mix.frame' m ρ,
  fun m ρ _ => Cert.KernelIdeal.Mix.frame' m ρ,
  fun m ρ _ => (θ_run _ _ _).mono (fun r h => ⟨fun c => (h c).2, sem_eq_zero_of_no_sems rfl r.2⟩) (Cert.ReferenceIdeal.Value.run m ρ),
  fun m ρ _ => Cert.Kernel2.Gen.frame m ρ,
  fun m ρ _ => Cert.Kernel2Ideal.Gen.frame m ρ,
  fun m ρ _ => (θ_run _ _ _).mono (fun r h => ⟨fun c => (h c).2, sem_eq_zero_of_no_sems rfl r.2⟩) (Cert.Reference2Ideal.Value.run m ρ),
  trivial,
  trivial,
  fun m ρ m' ρ' _ hag => ⟨fun c => Cert.Kernel2Ideal.Chan.G m c,
    (θ_run _ _ _).mono (fun _ h c => ⟨(h c).1.trans (Cert.Kernel2Ideal.Chan.final m c), (h c).2⟩) (Cert.Kernel2Ideal.Value.run_blocks m ρ),
    (θ_run _ _ _).mono (fun _ h c => ⟨(h c).1.trans (by
      rw [Cert.Reference2Ideal.Read.val_main_v53_eq, (hag c).1, (hag c).2.1, (hag c).2.2.1, (hag c).2.2.2.1, (hag c).2.2.2.2.1, (hag c).2.2.2.2.2.1,
        (hag c).2.2.2.2.2.2.1, (hag c).2.2.2.2.2.2.2.1, (hag c).2.2.2.2.2.2.2.2]
      exact values_agree m c), (h c).2⟩) (Cert.Reference2Ideal.Value.run m' ρ')⟩⟩

end Cert.Proof

end
